-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384 : Shape := ⟨2, ![1, 16384]⟩
abbrev S_ : Shape := ⟨0, ![]⟩
abbrev S256x512 : Shape := ⟨2, ![256, 512]⟩
abbrev S64x512 : Shape := ⟨2, ![64, 512]⟩
abbrev S512 : Shape := ⟨1, ![512]⟩
abbrev S128x512 : Shape := ⟨2, ![128, 512]⟩
abbrev S512x512 : Shape := ⟨2, ![512, 512]⟩
abbrev S1365x512 : Shape := ⟨2, ![1365, 512]⟩
abbrev S512x1365 : Shape := ⟨2, ![512, 1365]⟩
abbrev S1x16384x1 : Shape := ⟨3, ![1, 16384, 1]⟩
abbrev S1x16384x512 : Shape := ⟨3, ![1, 16384, 512]⟩
abbrev S64x256x512 : Shape := ⟨3, ![64, 256, 512]⟩
abbrev S16384x512 : Shape := ⟨2, ![16384, 512]⟩
abbrev S1x256x1x512 : Shape := ⟨4, ![1, 256, 1, 512]⟩
abbrev S64x256x1x512 : Shape := ⟨4, ![64, 256, 1, 512]⟩
abbrev S1x1x512 : Shape := ⟨3, ![1, 1, 512]⟩
abbrev S128x1x16384 : Shape := ⟨3, ![128, 1, 16384]⟩
abbrev S1x128x16384 : Shape := ⟨3, ![1, 128, 16384]⟩
abbrev S1x16384x128x4 : Shape := ⟨4, ![1, 16384, 128, 4]⟩
abbrev S1x128x16384x4 : Shape := ⟨4, ![1, 128, 16384, 4]⟩
abbrev S1x128x32 : Shape := ⟨3, ![1, 128, 32]⟩
abbrev S128x32x1 : Shape := ⟨3, ![128, 32, 1]⟩
abbrev S1 : Shape := ⟨1, ![1]⟩
abbrev S1x1x1 : Shape := ⟨3, ![1, 1, 1]⟩
abbrev S128x32 : Shape := ⟨2, ![128, 32]⟩
abbrev S1x128x32x1 : Shape := ⟨4, ![1, 128, 32, 1]⟩
abbrev S1x128x32x4 : Shape := ⟨4, ![1, 128, 32, 4]⟩
abbrev S32x128 : Shape := ⟨2, ![32, 128]⟩
abbrev S128x32x4 : Shape := ⟨3, ![128, 32, 4]⟩
abbrev S32x4x128 : Shape := ⟨3, ![32, 4, 128]⟩
abbrev S128x16384 : Shape := ⟨2, ![128, 16384]⟩
abbrev S16384x128 : Shape := ⟨2, ![16384, 128]⟩
abbrev S128x128 : Shape := ⟨2, ![128, 128]⟩
abbrev S128x1x128 : Shape := ⟨3, ![128, 1, 128]⟩
abbrev S1x32x128 : Shape := ⟨3, ![1, 32, 128]⟩
abbrev S128x32x128 : Shape := ⟨3, ![128, 32, 128]⟩
abbrev S1x128 : Shape := ⟨2, ![1, 128]⟩
abbrev S128 : Shape := ⟨1, ![128]⟩
abbrev S32x1x128 : Shape := ⟨3, ![32, 1, 128]⟩
abbrev S128x128x1 : Shape := ⟨3, ![128, 128, 1]⟩
abbrev S128x128x4 : Shape := ⟨3, ![128, 128, 4]⟩
abbrev S128x1 : Shape := ⟨2, ![128, 1]⟩
abbrev S1x512 : Shape := ⟨2, ![1, 512]⟩
abbrev S128x1365 : Shape := ⟨2, ![128, 1365]⟩
abbrev S512x256 : Shape := ⟨2, ![512, 256]⟩
abbrev S16384x256 : Shape := ⟨2, ![16384, 256]⟩
abbrev S128x256 : Shape := ⟨2, ![128, 256]⟩
abbrev S1x16384x256 : Shape := ⟨3, ![1, 16384, 256]⟩

abbrev nBuf : Space → Nat
  | .hbm => 327
  | .vmem => 36
  | .smem => 0
  | _ => 0

abbrev hbmTy0_0 (i : Nat) : BufTy := match i % 128 with
  | 0 => ⟨S1x16384, .i32⟩
  | 1 => ⟨S_, .i32⟩
  | 2 => ⟨S256x512, .f32⟩
  | 3 => ⟨S64x512, .f32⟩
  | 4 => ⟨S256x512, .f32⟩
  | 5 => ⟨S512, .f32⟩
  | 6 => ⟨S128x512, .f32⟩
  | 7 => ⟨S128x512, .f32⟩
  | 8 => ⟨S512x512, .f32⟩
  | 9 => ⟨S512x512, .f32⟩
  | 10 => ⟨S512, .f32⟩
  | 11 => ⟨S1365x512, .f32⟩
  | 12 => ⟨S1365x512, .f32⟩
  | 13 => ⟨S512x1365, .f32⟩
  | 14 => ⟨S512, .f32⟩
  | 15 => ⟨S128x512, .f32⟩
  | 16 => ⟨S128x512, .f32⟩
  | 17 => ⟨S512x512, .f32⟩
  | 18 => ⟨S512x512, .f32⟩
  | 19 => ⟨S512, .f32⟩
  | 20 => ⟨S1365x512, .f32⟩
  | 21 => ⟨S1365x512, .f32⟩
  | 22 => ⟨S512x1365, .f32⟩
  | 23 => ⟨S512, .f32⟩
  | 24 => ⟨S256x512, .f32⟩
  | 25 => ⟨S_, .i32⟩
  | 26 => ⟨S1x16384, .i32⟩
  | 27 => ⟨S1x16384, .i1⟩
  | 28 => ⟨S_, .i32⟩
  | 29 => ⟨S1x16384, .i32⟩
  | 30 => ⟨S1x16384, .i32⟩
  | 31 => ⟨S1x16384, .i32⟩
  | 32 => ⟨S1x16384x1, .i32⟩
  | 33 => ⟨S1x16384x512, .f32⟩
  | 34 => ⟨S64x256x512, .f32⟩
  | 35 => ⟨S16384x512, .f32⟩
  | 36 => ⟨S1x16384x512, .f32⟩
  | 37 => ⟨S1x256x1x512, .f32⟩
  | 38 => ⟨S64x256x1x512, .f32⟩
  | 39 => ⟨S16384x512, .f32⟩
  | 40 => ⟨S1x16384x512, .f32⟩
  | 41 => ⟨S1x16384x512, .f32⟩
  | 42 => ⟨S1x16384x512, .f32⟩
  | 43 => ⟨S512x512, .f32⟩
  | 44 => ⟨S512x1365, .f32⟩
  | 45 => ⟨S512x1365, .f32⟩
  | 46 => ⟨S1365x512, .f32⟩
  | 47 => ⟨S1x16384x512, .f32⟩
  | 48 => ⟨S_, .f32⟩
  | 49 => ⟨S1x16384, .f32⟩
  | 50 => ⟨S1x16384x1, .f32⟩
  | 51 => ⟨S_, .f32⟩
  | 52 => ⟨S1x16384x1, .f32⟩
  | 53 => ⟨S1x16384x1, .f32⟩
  | 54 => ⟨S_, .f32⟩
  | 55 => ⟨S1x16384x1, .f32⟩
  | 56 => ⟨S1x16384x1, .f32⟩
  | 57 => ⟨S1x16384x1, .f32⟩
  | 58 => ⟨S1x16384x512, .f32⟩
  | 59 => ⟨S1x16384x512, .f32⟩
  | 60 => ⟨S1x1x512, .f32⟩
  | 61 => ⟨S1x16384x512, .f32⟩
  | 62 => ⟨S1x16384x512, .f32⟩
  | 63 => ⟨S128x1x16384, .f32⟩
  | 64 => ⟨S1x128x16384, .f32⟩
  | 65 => ⟨S128x1x16384, .f32⟩
  | 66 => ⟨S1x128x16384, .f32⟩
  | 67 => ⟨S512x512, .f32⟩
  | 68 => ⟨S1x16384x512, .f32⟩
  | 69 => ⟨S1x16384x128x4, .f32⟩
  | 70 => ⟨S1x128x16384x4, .f32⟩
  | 71 => ⟨S1x128x16384, .i32⟩
  | 72 => ⟨S1x128x16384, .f32⟩
  | 73 => ⟨S1x128x16384, .i32⟩
  | 74 => ⟨S1x128x32, .i32⟩
  | 75 => ⟨S1x128x32, .i32⟩
  | 76 => ⟨S_, .i32⟩
  | 77 => ⟨S1x128x32, .i32⟩
  | 78 => ⟨S1x128x32, .i1⟩
  | 79 => ⟨S_, .i32⟩
  | 80 => ⟨S1x128x32, .i32⟩
  | 81 => ⟨S1x128x32, .i32⟩
  | 82 => ⟨S1x128x32, .i32⟩
  | 83 => ⟨S128x32x1, .i32⟩
  | 84 => ⟨S1, .i32⟩
  | 85 => ⟨S_, .i32⟩
  | 86 => ⟨S128x32x1, .i32⟩
  | 87 => ⟨S128x32x1, .i1⟩
  | 88 => ⟨S1x1x1, .i32⟩
  | 89 => ⟨S128x32x1, .i32⟩
  | 90 => ⟨S128x32x1, .i1⟩
  | 91 => ⟨S128x32x1, .i1⟩
  | 92 => ⟨S_, .i1⟩
  | 93 => ⟨S128x32, .i1⟩
  | 94 => ⟨S1x128x32, .f32⟩
  | 95 => ⟨S1x128x32, .i1⟩
  | 96 => ⟨S_, .f32⟩
  | 97 => ⟨S1x128x32, .f32⟩
  | 98 => ⟨S1x128x32, .f32⟩
  | 99 => ⟨S_, .i32⟩
  | 100 => ⟨S1x128x32, .i32⟩
  | 101 => ⟨S1x128x32, .i1⟩
  | 102 => ⟨S_, .i32⟩
  | 103 => ⟨S1x128x32, .i32⟩
  | 104 => ⟨S1x128x32, .i32⟩
  | 105 => ⟨S1x128x32, .i32⟩
  | 106 => ⟨S128x32x1, .i32⟩
  | 107 => ⟨S1, .i32⟩
  | 108 => ⟨S_, .i32⟩
  | 109 => ⟨S128x32x1, .i32⟩
  | 110 => ⟨S128x32x1, .i1⟩
  | 111 => ⟨S1x1x1, .i32⟩
  | 112 => ⟨S128x32x1, .i32⟩
  | 113 => ⟨S128x32x1, .i1⟩
  | 114 => ⟨S128x32x1, .i1⟩
  | 115 => ⟨S_, .i1⟩
  | 116 => ⟨S128x32, .i1⟩
  | 117 => ⟨S1x128x32, .f32⟩
  | 118 => ⟨S1x128x32, .i1⟩
  | 119 => ⟨S_, .f32⟩
  | 120 => ⟨S1x128x32, .f32⟩
  | 121 => ⟨S1x128x32, .f32⟩
  | 122 => ⟨S1x128x32x1, .i32⟩
  | 123 => ⟨S_, .i32⟩
  | 124 => ⟨S1x128x32x1, .i32⟩
  | 125 => ⟨S1x128x32x1, .i1⟩
  | 126 => ⟨S_, .i32⟩
  | 127 => ⟨S1x128x32x1, .i32⟩
  | _ => ⟨S1x16384, .i32⟩

abbrev hbmTy0_1 (i : Nat) : BufTy := match i % 128 with
  | 0 => ⟨S1x128x32x1, .i32⟩
  | 1 => ⟨S1x128x32x1, .i32⟩
  | 2 => ⟨S128x32x1, .i32⟩
  | 3 => ⟨S1, .i32⟩
  | 4 => ⟨S_, .i32⟩
  | 5 => ⟨S128x32x1, .i32⟩
  | 6 => ⟨S128x32x1, .i1⟩
  | 7 => ⟨S1x1x1, .i32⟩
  | 8 => ⟨S128x32x1, .i32⟩
  | 9 => ⟨S128x32x1, .i1⟩
  | 10 => ⟨S128x32x1, .i1⟩
  | 11 => ⟨S_, .i1⟩
  | 12 => ⟨S128x32, .i1⟩
  | 13 => ⟨S1x128x32x4, .f32⟩
  | 14 => ⟨S1x128x32x4, .i1⟩
  | 15 => ⟨S_, .f32⟩
  | 16 => ⟨S1x128x32x4, .f32⟩
  | 17 => ⟨S1x128x32x4, .f32⟩
  | 18 => ⟨S1x128x32x1, .i32⟩
  | 19 => ⟨S_, .i32⟩
  | 20 => ⟨S1x128x32x1, .i32⟩
  | 21 => ⟨S1x128x32x1, .i1⟩
  | 22 => ⟨S_, .i32⟩
  | 23 => ⟨S1x128x32x1, .i32⟩
  | 24 => ⟨S1x128x32x1, .i32⟩
  | 25 => ⟨S1x128x32x1, .i32⟩
  | 26 => ⟨S128x32x1, .i32⟩
  | 27 => ⟨S1, .i32⟩
  | 28 => ⟨S_, .i32⟩
  | 29 => ⟨S128x32x1, .i32⟩
  | 30 => ⟨S128x32x1, .i1⟩
  | 31 => ⟨S1x1x1, .i32⟩
  | 32 => ⟨S128x32x1, .i32⟩
  | 33 => ⟨S128x32x1, .i1⟩
  | 34 => ⟨S128x32x1, .i1⟩
  | 35 => ⟨S_, .i1⟩
  | 36 => ⟨S128x32, .i1⟩
  | 37 => ⟨S1x128x32x4, .f32⟩
  | 38 => ⟨S1x128x32x4, .i1⟩
  | 39 => ⟨S_, .f32⟩
  | 40 => ⟨S1x128x32x4, .f32⟩
  | 41 => ⟨S1x128x32x4, .f32⟩
  | 42 => ⟨S128x32, .f32⟩
  | 43 => ⟨S32x128, .f32⟩
  | 44 => ⟨S128x32, .f32⟩
  | 45 => ⟨S32x128, .f32⟩
  | 46 => ⟨S128x32x4, .f32⟩
  | 47 => ⟨S32x4x128, .f32⟩
  | 48 => ⟨S128x32x4, .f32⟩
  | 49 => ⟨S32x4x128, .f32⟩
  | 50 => ⟨S16384x512, .f32⟩
  | 51 => ⟨S128x16384, .f32⟩
  | 52 => ⟨S16384x128, .f32⟩
  | 53 => ⟨S16384x512, .f32⟩
  | 54 => ⟨S1x16384x512, .f32⟩
  | 55 => ⟨S512x512, .f32⟩
  | 56 => ⟨S512x1365, .f32⟩
  | 57 => ⟨S512x1365, .f32⟩
  | 58 => ⟨S1365x512, .f32⟩
  | 59 => ⟨S1x16384x512, .f32⟩
  | 60 => ⟨S_, .f32⟩
  | 61 => ⟨S1x16384, .f32⟩
  | 62 => ⟨S1x16384x1, .f32⟩
  | 63 => ⟨S_, .f32⟩
  | 64 => ⟨S1x16384x1, .f32⟩
  | 65 => ⟨S1x16384x1, .f32⟩
  | 66 => ⟨S_, .f32⟩
  | 67 => ⟨S1x16384x1, .f32⟩
  | 68 => ⟨S1x16384x1, .f32⟩
  | 69 => ⟨S1x16384x1, .f32⟩
  | 70 => ⟨S1x16384x512, .f32⟩
  | 71 => ⟨S1x16384x512, .f32⟩
  | 72 => ⟨S1x1x512, .f32⟩
  | 73 => ⟨S1x16384x512, .f32⟩
  | 74 => ⟨S1x16384x512, .f32⟩
  | 75 => ⟨S128x1x16384, .f32⟩
  | 76 => ⟨S1x128x16384, .f32⟩
  | 77 => ⟨S128x1x16384, .f32⟩
  | 78 => ⟨S1x128x16384, .f32⟩
  | 79 => ⟨S512x512, .f32⟩
  | 80 => ⟨S1x16384x512, .f32⟩
  | 81 => ⟨S1x16384x128x4, .f32⟩
  | 82 => ⟨S1x128x16384x4, .f32⟩
  | 83 => ⟨S1x128x16384, .i32⟩
  | 84 => ⟨S1x128x16384, .f32⟩
  | 85 => ⟨S1x128x16384, .i32⟩
  | 86 => ⟨S1x128x32, .i32⟩
  | 87 => ⟨S1x128x32, .i32⟩
  | 88 => ⟨S_, .i32⟩
  | 89 => ⟨S1x128x32, .i32⟩
  | 90 => ⟨S1x128x32, .i1⟩
  | 91 => ⟨S_, .i32⟩
  | 92 => ⟨S1x128x32, .i32⟩
  | 93 => ⟨S1x128x32, .i32⟩
  | 94 => ⟨S1x128x32, .i32⟩
  | 95 => ⟨S128x32x1, .i32⟩
  | 96 => ⟨S1, .i32⟩
  | 97 => ⟨S_, .i32⟩
  | 98 => ⟨S128x32x1, .i32⟩
  | 99 => ⟨S128x32x1, .i1⟩
  | 100 => ⟨S1x1x1, .i32⟩
  | 101 => ⟨S128x32x1, .i32⟩
  | 102 => ⟨S128x32x1, .i1⟩
  | 103 => ⟨S128x32x1, .i1⟩
  | 104 => ⟨S_, .i1⟩
  | 105 => ⟨S128x32, .i1⟩
  | 106 => ⟨S1x128x32, .f32⟩
  | 107 => ⟨S1x128x32, .i1⟩
  | 108 => ⟨S_, .f32⟩
  | 109 => ⟨S1x128x32, .f32⟩
  | 110 => ⟨S1x128x32, .f32⟩
  | 111 => ⟨S_, .i32⟩
  | 112 => ⟨S1x128x32, .i32⟩
  | 113 => ⟨S1x128x32, .i1⟩
  | 114 => ⟨S_, .i32⟩
  | 115 => ⟨S1x128x32, .i32⟩
  | 116 => ⟨S1x128x32, .i32⟩
  | 117 => ⟨S1x128x32, .i32⟩
  | 118 => ⟨S128x32x1, .i32⟩
  | 119 => ⟨S1, .i32⟩
  | 120 => ⟨S_, .i32⟩
  | 121 => ⟨S128x32x1, .i32⟩
  | 122 => ⟨S128x32x1, .i1⟩
  | 123 => ⟨S1x1x1, .i32⟩
  | 124 => ⟨S128x32x1, .i32⟩
  | 125 => ⟨S128x32x1, .i1⟩
  | 126 => ⟨S128x32x1, .i1⟩
  | 127 => ⟨S_, .i1⟩
  | _ => ⟨S1x16384, .i32⟩

abbrev hbmTy0_2 (i : Nat) : BufTy := match i % 128 with
  | 0 => ⟨S128x32, .i1⟩
  | 1 => ⟨S1x128x32, .f32⟩
  | 2 => ⟨S1x128x32, .i1⟩
  | 3 => ⟨S_, .f32⟩
  | 4 => ⟨S1x128x32, .f32⟩
  | 5 => ⟨S1x128x32, .f32⟩
  | 6 => ⟨S1x128x32x1, .i32⟩
  | 7 => ⟨S_, .i32⟩
  | 8 => ⟨S1x128x32x1, .i32⟩
  | 9 => ⟨S1x128x32x1, .i1⟩
  | 10 => ⟨S_, .i32⟩
  | 11 => ⟨S1x128x32x1, .i32⟩
  | 12 => ⟨S1x128x32x1, .i32⟩
  | 13 => ⟨S1x128x32x1, .i32⟩
  | 14 => ⟨S128x32x1, .i32⟩
  | 15 => ⟨S1, .i32⟩
  | 16 => ⟨S_, .i32⟩
  | 17 => ⟨S128x32x1, .i32⟩
  | 18 => ⟨S128x32x1, .i1⟩
  | 19 => ⟨S1x1x1, .i32⟩
  | 20 => ⟨S128x32x1, .i32⟩
  | 21 => ⟨S128x32x1, .i1⟩
  | 22 => ⟨S128x32x1, .i1⟩
  | 23 => ⟨S_, .i1⟩
  | 24 => ⟨S128x32, .i1⟩
  | 25 => ⟨S1x128x32x4, .f32⟩
  | 26 => ⟨S1x128x32x4, .i1⟩
  | 27 => ⟨S_, .f32⟩
  | 28 => ⟨S1x128x32x4, .f32⟩
  | 29 => ⟨S1x128x32x4, .f32⟩
  | 30 => ⟨S1x128x32x1, .i32⟩
  | 31 => ⟨S_, .i32⟩
  | 32 => ⟨S1x128x32x1, .i32⟩
  | 33 => ⟨S1x128x32x1, .i1⟩
  | 34 => ⟨S_, .i32⟩
  | 35 => ⟨S1x128x32x1, .i32⟩
  | 36 => ⟨S1x128x32x1, .i32⟩
  | 37 => ⟨S1x128x32x1, .i32⟩
  | 38 => ⟨S128x32x1, .i32⟩
  | 39 => ⟨S1, .i32⟩
  | 40 => ⟨S_, .i32⟩
  | 41 => ⟨S128x32x1, .i32⟩
  | 42 => ⟨S128x32x1, .i1⟩
  | 43 => ⟨S1x1x1, .i32⟩
  | 44 => ⟨S128x32x1, .i32⟩
  | 45 => ⟨S128x32x1, .i1⟩
  | 46 => ⟨S128x32x1, .i1⟩
  | 47 => ⟨S_, .i1⟩
  | 48 => ⟨S128x32, .i1⟩
  | 49 => ⟨S1x128x32x4, .f32⟩
  | 50 => ⟨S1x128x32x4, .i1⟩
  | 51 => ⟨S_, .f32⟩
  | 52 => ⟨S1x128x32x4, .f32⟩
  | 53 => ⟨S1x128x32x4, .f32⟩
  | 54 => ⟨S128x32, .f32⟩
  | 55 => ⟨S32x128, .f32⟩
  | 56 => ⟨S128x32, .f32⟩
  | 57 => ⟨S32x128, .f32⟩
  | 58 => ⟨S128x32x4, .f32⟩
  | 59 => ⟨S32x4x128, .f32⟩
  | 60 => ⟨S128x32x4, .f32⟩
  | 61 => ⟨S32x4x128, .f32⟩
  | 62 => ⟨S16384x512, .f32⟩
  | 63 => ⟨S128x16384, .f32⟩
  | 64 => ⟨S16384x128, .f32⟩
  | 65 => ⟨S16384x512, .f32⟩
  | 66 => ⟨S1x16384x512, .f32⟩
  | 67 => ⟨S16384x512, .f32⟩
  | 68 => ⟨S512x256, .f32⟩
  | 69 => ⟨S16384x256, .f32⟩
  | 70 => ⟨S1x16384x256, .f32⟩
  | _ => ⟨S1x16384, .i32⟩

abbrev hbmTy (i : Nat) : BufTy := match i / 128 with
  | 0 => hbmTy0_0 i
  | 1 => hbmTy0_1 i
  | 2 => hbmTy0_2 i
  | _ => ⟨S1x16384, .i32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S32x128, .f32⟩
  | .local _ .vmem, ⟨5, _⟩ => ⟨S32x128, .f32⟩
  | .local _ .vmem, ⟨6, _⟩ => ⟨S32x4x128, .f32⟩
  | .local _ .vmem, ⟨7, _⟩ => ⟨S32x4x128, .f32⟩
  | .local _ .vmem, ⟨8, _⟩ => ⟨S512x512, .f32⟩
  | .local _ .vmem, ⟨9, _⟩ => ⟨S512, .f32⟩
  | .local _ .vmem, ⟨10, _⟩ => ⟨S512x1365, .f32⟩
  | .local _ .vmem, ⟨11, _⟩ => ⟨S512x1365, .f32⟩
  | .local _ .vmem, ⟨12, _⟩ => ⟨S1365x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x128, .f32⟩
  | .local _ .vmem, ⟨18, _⟩ => ⟨S128x128, .f32⟩
  | .local _ .vmem, ⟨19, _⟩ => ⟨S32x128, .f32⟩
  | .local _ .vmem, ⟨20, _⟩ => ⟨S32x128, .f32⟩
  | .local _ .vmem, ⟨21, _⟩ => ⟨S32x4x128, .f32⟩
  | .local _ .vmem, ⟨22, _⟩ => ⟨S32x4x128, .f32⟩
  | .local _ .vmem, ⟨23, _⟩ => ⟨S512x512, .f32⟩
  | .local _ .vmem, ⟨24, _⟩ => ⟨S512, .f32⟩
  | .local _ .vmem, ⟨25, _⟩ => ⟨S512x1365, .f32⟩
  | .local _ .vmem, ⟨26, _⟩ => ⟨S512x1365, .f32⟩
  | .local _ .vmem, ⟨27, _⟩ => ⟨S1365x512, .f32⟩
  | .local _ .vmem, ⟨28, _⟩ => ⟨S128x512, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | .local _ .vmem, ⟨32, _⟩ => ⟨S512, .f32⟩
  | .local _ .vmem, ⟨33, _⟩ => ⟨S512x256, .f32⟩
  | .local _ .vmem, ⟨34, _⟩ => ⟨S128x256, .f32⟩
  | .local _ .vmem, ⟨35, _⟩ => ⟨S128x256, .f32⟩
  | _, _ => ⟨S1x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_cst_1 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call0_v0 : Ref sig .tc := ⟨.hbm, 71, rfl⟩
abbrev main_call0_v1_0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v44 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_cst : Ref sig .tc := ⟨.hbm, 119, rfl⟩
abbrev main_call2_v15 : Ref sig .tc := ⟨.hbm, 120, rfl⟩
abbrev main_v45 : Ref sig .tc := ⟨.hbm, 121, rfl⟩
abbrev main_v46 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v47 : Ref sig .tc := ⟨.hbm, 145, rfl⟩
abbrev main_v48 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_cst_3 : Ref sig .tc := ⟨.hbm, 188, rfl⟩
abbrev main_v68 : Ref sig .tc := ⟨.hbm, 189, rfl⟩
abbrev main_v69 : Ref sig .tc := ⟨.hbm, 190, rfl⟩
abbrev main_cst_4 : Ref sig .tc := ⟨.hbm, 191, rfl⟩
abbrev main_v70 : Ref sig .tc := ⟨.hbm, 192, rfl⟩
abbrev main_v71 : Ref sig .tc := ⟨.hbm, 193, rfl⟩
abbrev main_cst_5 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_v87 : Ref sig .tc := ⟨.hbm, 210, rfl⟩
abbrev main_call5_v0 : Ref sig .tc := ⟨.hbm, 211, rfl⟩
abbrev main_call5_v1_0 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_call6_c : Ref sig .tc := ⟨.hbm, 216, rfl⟩
abbrev main_call6_v0 : Ref sig .tc := ⟨.hbm, 217, rfl⟩
abbrev main_call6_v1 : Ref sig .tc := ⟨.hbm, 218, rfl⟩
abbrev main_call6_c_0 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_call6_v5 : Ref sig .tc := ⟨.hbm, 223, rfl⟩
abbrev main_call6_c_1 : Ref sig .tc := ⟨.hbm, 224, rfl⟩
abbrev main_call6_c_2 : Ref sig .tc := ⟨.hbm, 225, rfl⟩
abbrev main_call6_v6 : Ref sig .tc := ⟨.hbm, 226, rfl⟩
abbrev main_call6_v7 : Ref sig .tc := ⟨.hbm, 227, rfl⟩
abbrev main_call6_v8 : Ref sig .tc := ⟨.hbm, 228, rfl⟩
abbrev main_call6_v9 : Ref sig .tc := ⟨.hbm, 229, rfl⟩
abbrev main_call6_v10 : Ref sig .tc := ⟨.hbm, 230, rfl⟩
abbrev main_call6_v11 : Ref sig .tc := ⟨.hbm, 231, rfl⟩
abbrev main_call6_c_3 : Ref sig .tc := ⟨.hbm, 232, rfl⟩
abbrev main_call6_v12 : Ref sig .tc := ⟨.hbm, 233, rfl⟩
abbrev main_call6_v13 : Ref sig .tc := ⟨.hbm, 234, rfl⟩
abbrev main_call6_v14 : Ref sig .tc := ⟨.hbm, 235, rfl⟩
abbrev main_call6_cst : Ref sig .tc := ⟨.hbm, 236, rfl⟩
abbrev main_call6_v15 : Ref sig .tc := ⟨.hbm, 237, rfl⟩
abbrev main_v91 : Ref sig .tc := ⟨.hbm, 238, rfl⟩
abbrev main_call7_c : Ref sig .tc := ⟨.hbm, 239, rfl⟩
abbrev main_call7_v0 : Ref sig .tc := ⟨.hbm, 240, rfl⟩
abbrev main_call7_v1 : Ref sig .tc := ⟨.hbm, 241, rfl⟩
abbrev main_call7_c_0 : Ref sig .tc := ⟨.hbm, 242, rfl⟩
abbrev main_call7_v2 : Ref sig .tc := ⟨.hbm, 243, rfl⟩
abbrev main_call7_v3 : Ref sig .tc := ⟨.hbm, 244, rfl⟩
abbrev main_call7_v4 : Ref sig .tc := ⟨.hbm, 245, rfl⟩
abbrev main_call7_v5 : Ref sig .tc := ⟨.hbm, 246, rfl⟩
abbrev main_call7_c_1 : Ref sig .tc := ⟨.hbm, 247, rfl⟩
abbrev main_call7_c_2 : Ref sig .tc := ⟨.hbm, 248, rfl⟩
abbrev main_call7_v6 : Ref sig .tc := ⟨.hbm, 249, rfl⟩
abbrev main_call7_v7 : Ref sig .tc := ⟨.hbm, 250, rfl⟩
abbrev main_call7_v8 : Ref sig .tc := ⟨.hbm, 251, rfl⟩
abbrev main_call7_v9 : Ref sig .tc := ⟨.hbm, 252, rfl⟩
abbrev main_call7_v10 : Ref sig .tc := ⟨.hbm, 253, rfl⟩
abbrev main_call7_v11 : Ref sig .tc := ⟨.hbm, 254, rfl⟩
abbrev main_call7_c_3 : Ref sig .tc := ⟨.hbm, 255, rfl⟩
abbrev main_call7_v12 : Ref sig .tc := ⟨.hbm, 256, rfl⟩
abbrev main_call7_v13 : Ref sig .tc := ⟨.hbm, 257, rfl⟩
abbrev main_call7_v14 : Ref sig .tc := ⟨.hbm, 258, rfl⟩
abbrev main_call7_cst : Ref sig .tc := ⟨.hbm, 259, rfl⟩
abbrev main_call7_v15 : Ref sig .tc := ⟨.hbm, 260, rfl⟩
abbrev main_v92 : Ref sig .tc := ⟨.hbm, 261, rfl⟩
abbrev main_v93 : Ref sig .tc := ⟨.hbm, 262, rfl⟩
abbrev main_call8_c : Ref sig .tc := ⟨.hbm, 263, rfl⟩
abbrev main_call8_v0 : Ref sig .tc := ⟨.hbm, 264, rfl⟩
abbrev main_call8_v1 : Ref sig .tc := ⟨.hbm, 265, rfl⟩
abbrev main_call8_c_0 : Ref sig .tc := ⟨.hbm, 266, rfl⟩
abbrev main_call8_v2 : Ref sig .tc := ⟨.hbm, 267, rfl⟩
abbrev main_call8_v3 : Ref sig .tc := ⟨.hbm, 268, rfl⟩
abbrev main_call8_v4 : Ref sig .tc := ⟨.hbm, 269, rfl⟩
abbrev main_call8_v5 : Ref sig .tc := ⟨.hbm, 270, rfl⟩
abbrev main_call8_c_1 : Ref sig .tc := ⟨.hbm, 271, rfl⟩
abbrev main_call8_c_2 : Ref sig .tc := ⟨.hbm, 272, rfl⟩
abbrev main_call8_v6 : Ref sig .tc := ⟨.hbm, 273, rfl⟩
abbrev main_call8_v7 : Ref sig .tc := ⟨.hbm, 274, rfl⟩
abbrev main_call8_v8 : Ref sig .tc := ⟨.hbm, 275, rfl⟩
abbrev main_call8_v9 : Ref sig .tc := ⟨.hbm, 276, rfl⟩
abbrev main_call8_v10 : Ref sig .tc := ⟨.hbm, 277, rfl⟩
abbrev main_call8_v11 : Ref sig .tc := ⟨.hbm, 278, rfl⟩
abbrev main_call8_c_3 : Ref sig .tc := ⟨.hbm, 279, rfl⟩
abbrev main_call8_v12 : Ref sig .tc := ⟨.hbm, 280, rfl⟩
abbrev main_call8_v13 : Ref sig .tc := ⟨.hbm, 281, rfl⟩
abbrev main_call8_v14 : Ref sig .tc := ⟨.hbm, 282, rfl⟩
abbrev main_call8_cst : Ref sig .tc := ⟨.hbm, 283, rfl⟩
abbrev main_call8_v15 : Ref sig .tc := ⟨.hbm, 284, rfl⟩
abbrev main_v94 : Ref sig .tc := ⟨.hbm, 285, rfl⟩
abbrev main_v95 : Ref sig .tc := ⟨.hbm, 286, rfl⟩
abbrev main_call9_c : Ref sig .tc := ⟨.hbm, 287, rfl⟩
abbrev main_call9_v0 : Ref sig .tc := ⟨.hbm, 288, rfl⟩
abbrev main_call9_v1 : Ref sig .tc := ⟨.hbm, 289, rfl⟩
abbrev main_call9_c_0 : Ref sig .tc := ⟨.hbm, 290, rfl⟩
abbrev main_call9_v2 : Ref sig .tc := ⟨.hbm, 291, rfl⟩
abbrev main_call9_v3 : Ref sig .tc := ⟨.hbm, 292, rfl⟩
abbrev main_call9_v4 : Ref sig .tc := ⟨.hbm, 293, rfl⟩
abbrev main_call9_v5 : Ref sig .tc := ⟨.hbm, 294, rfl⟩
abbrev main_call9_c_1 : Ref sig .tc := ⟨.hbm, 295, rfl⟩
abbrev main_call9_c_2 : Ref sig .tc := ⟨.hbm, 296, rfl⟩
abbrev main_call9_v6 : Ref sig .tc := ⟨.hbm, 297, rfl⟩
abbrev main_call9_v7 : Ref sig .tc := ⟨.hbm, 298, rfl⟩
abbrev main_call9_v8 : Ref sig .tc := ⟨.hbm, 299, rfl⟩
abbrev main_call9_v9 : Ref sig .tc := ⟨.hbm, 300, rfl⟩
abbrev main_call9_v10 : Ref sig .tc := ⟨.hbm, 301, rfl⟩
abbrev main_call9_v11 : Ref sig .tc := ⟨.hbm, 302, rfl⟩
abbrev main_call9_c_3 : Ref sig .tc := ⟨.hbm, 303, rfl⟩
abbrev main_call9_v12 : Ref sig .tc := ⟨.hbm, 304, rfl⟩
abbrev main_call9_v13 : Ref sig .tc := ⟨.hbm, 305, rfl⟩
abbrev main_call9_v14 : Ref sig .tc := ⟨.hbm, 306, rfl⟩
abbrev main_call9_cst : Ref sig .tc := ⟨.hbm, 307, rfl⟩
abbrev main_call9_v15 : Ref sig .tc := ⟨.hbm, 308, rfl⟩
abbrev main_v96 : Ref sig .tc := ⟨.hbm, 309, rfl⟩
abbrev main_v97 : Ref sig .tc := ⟨.hbm, 310, rfl⟩
abbrev main_v98 : Ref sig .tc := ⟨.hbm, 311, rfl⟩
abbrev main_v99 : Ref sig .tc := ⟨.hbm, 312, rfl⟩
abbrev main_v100 : Ref sig .tc := ⟨.hbm, 313, rfl⟩
abbrev main_v101 : Ref sig .tc := ⟨.hbm, 314, rfl⟩
abbrev main_v102 : Ref sig .tc := ⟨.hbm, 315, rfl⟩
abbrev main_v103 : Ref sig .tc := ⟨.hbm, 316, rfl⟩
abbrev main_v104 : Ref sig .tc := ⟨.hbm, 317, rfl⟩
abbrev main_v105 : Ref sig .tc := ⟨.hbm, 318, rfl⟩
abbrev main_v106 : Ref sig .tc := ⟨.hbm, 319, rfl⟩
abbrev main_v107 : Ref sig .tc := ⟨.hbm, 320, rfl⟩
abbrev main_v108 : Ref sig .tc := ⟨.hbm, 321, rfl⟩
abbrev main_v109 : Ref sig .tc := ⟨.hbm, 322, rfl⟩
abbrev main_v110 : Ref sig .tc := ⟨.hbm, 323, rfl⟩
abbrev main_v111 : Ref sig .tc := ⟨.hbm, 324, rfl⟩
abbrev main_v112 : Ref sig .tc := ⟨.hbm, 325, rfl⟩
abbrev main_v113 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1365 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1365 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1365x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x4x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x4x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1365 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x1365 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1365x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S1x16384 : Shape := ⟨2, ![1, 16384]⟩
abbrev S_ : Shape := ⟨0, ![]⟩
abbrev S256x512 : Shape := ⟨2, ![256, 512]⟩
abbrev S64x512 : Shape := ⟨2, ![64, 512]⟩
abbrev S512 : Shape := ⟨1, ![512]⟩
abbrev S128x512 : Shape := ⟨2, ![128, 512]⟩
abbrev S512x512 : Shape := ⟨2, ![512, 512]⟩
abbrev S1365x512 : Shape := ⟨2, ![1365, 512]⟩
abbrev S512x1365 : Shape := ⟨2, ![512, 1365]⟩
abbrev S16384 : Shape := ⟨1, ![16384]⟩
abbrev S16384x1 : Shape := ⟨2, ![16384, 1]⟩
abbrev S16384x512 : Shape := ⟨2, ![16384, 512]⟩
abbrev S64x256x512 : Shape := ⟨3, ![64, 256, 512]⟩
abbrev S1x256x1x512 : Shape := ⟨4, ![1, 256, 1, 512]⟩
abbrev S64x256x1x512 : Shape := ⟨4, ![64, 256, 1, 512]⟩
abbrev S1x512 : Shape := ⟨2, ![1, 512]⟩
abbrev S128x16384 : Shape := ⟨2, ![128, 16384]⟩
abbrev S16384x128x4 : Shape := ⟨3, ![16384, 128, 4]⟩
abbrev S128x16384x4 : Shape := ⟨3, ![128, 16384, 4]⟩
abbrev S128x16384x1 : Shape := ⟨3, ![128, 16384, 1]⟩
abbrev S1 : Shape := ⟨1, ![1]⟩
abbrev S1x1x1 : Shape := ⟨3, ![1, 1, 1]⟩
abbrev S128x32 : Shape := ⟨2, ![128, 32]⟩
abbrev S128x32x4 : Shape := ⟨3, ![128, 32, 4]⟩
abbrev S128x1x32 : Shape := ⟨3, ![128, 1, 32]⟩
abbrev S128x16384x32 : Shape := ⟨3, ![128, 16384, 32]⟩
abbrev S16384x1365 : Shape := ⟨2, ![16384, 1365]⟩
abbrev S512x256 : Shape := ⟨2, ![512, 256]⟩
abbrev S16384x256 : Shape := ⟨2, ![16384, 256]⟩
abbrev S1x16384x256 : Shape := ⟨3, ![1, 16384, 256]⟩

abbrev nBuf : Space → Nat
  | .hbm => 391
  | .vmem => 0
  | .smem => 0
  | _ => 0

abbrev hbmTy0_0 (i : Nat) : BufTy := match i % 128 with
  | 0 => ⟨S1x16384, .i32⟩
  | 1 => ⟨S_, .i32⟩
  | 2 => ⟨S256x512, .f32⟩
  | 3 => ⟨S64x512, .f32⟩
  | 4 => ⟨S256x512, .f32⟩
  | 5 => ⟨S512, .f32⟩
  | 6 => ⟨S128x512, .f32⟩
  | 7 => ⟨S128x512, .f32⟩
  | 8 => ⟨S512x512, .f32⟩
  | 9 => ⟨S512x512, .f32⟩
  | 10 => ⟨S512, .f32⟩
  | 11 => ⟨S1365x512, .f32⟩
  | 12 => ⟨S1365x512, .f32⟩
  | 13 => ⟨S512x1365, .f32⟩
  | 14 => ⟨S512, .f32⟩
  | 15 => ⟨S128x512, .f32⟩
  | 16 => ⟨S128x512, .f32⟩
  | 17 => ⟨S512x512, .f32⟩
  | 18 => ⟨S512x512, .f32⟩
  | 19 => ⟨S512, .f32⟩
  | 20 => ⟨S1365x512, .f32⟩
  | 21 => ⟨S1365x512, .f32⟩
  | 22 => ⟨S512x1365, .f32⟩
  | 23 => ⟨S512, .f32⟩
  | 24 => ⟨S256x512, .f32⟩
  | 25 => ⟨S16384, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S16384x512, .f32⟩
  | 35 => ⟨S64x256x512, .f32⟩
  | 36 => ⟨S16384x512, .f32⟩
  | 37 => ⟨S1x256x1x512, .f32⟩
  | 38 => ⟨S64x256x1x512, .f32⟩
  | 39 => ⟨S16384x512, .f32⟩
  | 40 => ⟨S16384x512, .f32⟩
  | 41 => ⟨S16384x512, .f32⟩
  | 42 => ⟨S16384x512, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S16384x512, .f32⟩
  | 54 => ⟨S16384x512, .f32⟩
  | 55 => ⟨S1x512, .f32⟩
  | 56 => ⟨S16384x512, .f32⟩
  | 57 => ⟨S16384x512, .f32⟩
  | 58 => ⟨S128x16384, .f32⟩
  | 59 => ⟨S128x16384, .f32⟩
  | 60 => ⟨S512x512, .f32⟩
  | 61 => ⟨S16384x512, .f32⟩
  | 62 => ⟨S16384x128x4, .f32⟩
  | 63 => ⟨S128x16384x4, .f32⟩
  | 64 => ⟨S128x16384, .i32⟩
  | 65 => ⟨S128x16384, .f32⟩
  | 66 => ⟨S128x16384, .i32⟩
  | 67 => ⟨S_, .i32⟩
  | 68 => ⟨S128x16384, .i32⟩
  | 69 => ⟨S128x16384, .i1⟩
  | 70 => ⟨S_, .i32⟩
  | 71 => ⟨S128x16384, .i32⟩
  | 72 => ⟨S128x16384, .i32⟩
  | 73 => ⟨S128x16384, .i32⟩
  | 74 => ⟨S128x16384x1, .i32⟩
  | 75 => ⟨S1, .i32⟩
  | 76 => ⟨S_, .i32⟩
  | 77 => ⟨S128x16384x1, .i32⟩
  | 78 => ⟨S128x16384x1, .i1⟩
  | 79 => ⟨S1x1x1, .i32⟩
  | 80 => ⟨S128x16384x1, .i32⟩
  | 81 => ⟨S128x16384x1, .i1⟩
  | 82 => ⟨S128x16384x1, .i1⟩
  | 83 => ⟨S_, .i1⟩
  | 84 => ⟨S128x16384, .i1⟩
  | 85 => ⟨S128x16384, .f32⟩
  | 86 => ⟨S_, .f32⟩
  | 87 => ⟨S128x16384, .f32⟩
  | 88 => ⟨S128x16384, .f32⟩
  | 89 => ⟨S128x16384x1, .i32⟩
  | 90 => ⟨S_, .i32⟩
  | 91 => ⟨S128x16384x1, .i32⟩
  | 92 => ⟨S128x16384x1, .i1⟩
  | 93 => ⟨S_, .i32⟩
  | 94 => ⟨S128x16384x1, .i32⟩
  | 95 => ⟨S128x16384x1, .i32⟩
  | 96 => ⟨S128x16384x1, .i32⟩
  | 97 => ⟨S1, .i32⟩
  | 98 => ⟨S_, .i32⟩
  | 99 => ⟨S128x16384x1, .i32⟩
  | 100 => ⟨S128x16384x1, .i1⟩
  | 101 => ⟨S1x1x1, .i32⟩
  | 102 => ⟨S128x16384x1, .i32⟩
  | 103 => ⟨S128x16384x1, .i1⟩
  | 104 => ⟨S128x16384x1, .i1⟩
  | 105 => ⟨S_, .i1⟩
  | 106 => ⟨S128x16384, .i1⟩
  | 107 => ⟨S128x16384x4, .f32⟩
  | 108 => ⟨S128x16384x4, .i1⟩
  | 109 => ⟨S_, .f32⟩
  | 110 => ⟨S128x16384x4, .f32⟩
  | 111 => ⟨S128x16384x4, .f32⟩
  | 112 => ⟨S128x32, .f32⟩
  | 113 => ⟨S128x32, .f32⟩
  | 114 => ⟨S128x32x4, .f32⟩
  | 115 => ⟨S128x32x4, .f32⟩
  | 116 => ⟨S128x16384x1, .f32⟩
  | 117 => ⟨S128x1x32, .f32⟩
  | 118 => ⟨S128x16384x32, .f32⟩
  | 119 => ⟨S128x16384x32, .f32⟩
  | 120 => ⟨S128x16384x32, .f32⟩
  | 121 => ⟨S_, .f32⟩
  | 122 => ⟨S128x16384, .f32⟩
  | 123 => ⟨S_, .f32⟩
  | 124 => ⟨S128x16384, .f32⟩
  | 125 => ⟨S128x16384, .f32⟩
  | 126 => ⟨S128x16384x1, .f32⟩
  | 127 => ⟨S128x16384x32, .f32⟩
  | _ => ⟨S1x16384, .i32⟩

abbrev hbmTy0_1 (i : Nat) : BufTy := match i % 128 with
  | 0 => ⟨S128x16384x32, .f32⟩
  | 1 => ⟨S128x16384x32, .f32⟩
  | 2 => ⟨S_, .f32⟩
  | 3 => ⟨S128x16384, .f32⟩
  | 4 => ⟨S128x16384x1, .f32⟩
  | 5 => ⟨S128x16384x32, .f32⟩
  | 6 => ⟨S128x16384x32, .f32⟩
  | 7 => ⟨S128x16384x1, .f32⟩
  | 8 => ⟨S128x1x32, .f32⟩
  | 9 => ⟨S128x16384x32, .f32⟩
  | 10 => ⟨S128x16384x32, .f32⟩
  | 11 => ⟨S128x16384x32, .f32⟩
  | 12 => ⟨S_, .f32⟩
  | 13 => ⟨S128x16384, .f32⟩
  | 14 => ⟨S_, .f32⟩
  | 15 => ⟨S128x16384, .f32⟩
  | 16 => ⟨S128x16384, .f32⟩
  | 17 => ⟨S128x16384x1, .f32⟩
  | 18 => ⟨S128x16384x32, .f32⟩
  | 19 => ⟨S128x16384x32, .f32⟩
  | 20 => ⟨S128x16384x32, .f32⟩
  | 21 => ⟨S_, .f32⟩
  | 22 => ⟨S128x16384, .f32⟩
  | 23 => ⟨S128x16384x1, .f32⟩
  | 24 => ⟨S128x16384x32, .f32⟩
  | 25 => ⟨S128x16384x32, .f32⟩
  | 26 => ⟨S128x16384x4, .f32⟩
  | 27 => ⟨S128x16384x4, .f32⟩
  | 28 => ⟨S_, .f32⟩
  | 29 => ⟨S128x16384, .f32⟩
  | 30 => ⟨S128x16384, .i1⟩
  | 31 => ⟨S128x16384, .f32⟩
  | 32 => ⟨S128x16384x1, .f32⟩
  | 33 => ⟨S128x16384x4, .f32⟩
  | 34 => ⟨S128x16384x4, .f32⟩
  | 35 => ⟨S_, .f32⟩
  | 36 => ⟨S128x16384x1, .f32⟩
  | 37 => ⟨S128x16384x1, .f32⟩
  | 38 => ⟨S128x16384x4, .f32⟩
  | 39 => ⟨S128x16384x4, .f32⟩
  | 40 => ⟨S128x16384x4, .f32⟩
  | 41 => ⟨S16384x128x4, .f32⟩
  | 42 => ⟨S16384x512, .f32⟩
  | 43 => ⟨S512x512, .f32⟩
  | 44 => ⟨S16384x512, .f32⟩
  | 45 => ⟨S16384x512, .f32⟩
  | 46 => ⟨S16384x512, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x1, .f32⟩
  | 57 => ⟨S16384x512, .f32⟩
  | 58 => ⟨S16384x512, .f32⟩
  | 59 => ⟨S1x512, .f32⟩
  | 60 => ⟨S16384x512, .f32⟩
  | 61 => ⟨S16384x512, .f32⟩
  | 62 => ⟨S512x1365, .f32⟩
  | 63 => ⟨S16384x1365, .f32⟩
  | 64 => ⟨S16384x1365, .f32⟩
  | 65 => ⟨S16384x1365, .f32⟩
  | 66 => ⟨S_, .f32⟩
  | 67 => ⟨S16384x1365, .f32⟩
  | 68 => ⟨S16384x1365, .f32⟩
  | 69 => ⟨S_, .f32⟩
  | 70 => ⟨S16384x1365, .f32⟩
  | 71 => ⟨S16384x1365, .f32⟩
  | 72 => ⟨S16384x1365, .f32⟩
  | 73 => ⟨S512x1365, .f32⟩
  | 74 => ⟨S16384x1365, .f32⟩
  | 75 => ⟨S16384x1365, .f32⟩
  | 76 => ⟨S1365x512, .f32⟩
  | 77 => ⟨S16384x512, .f32⟩
  | 78 => ⟨S16384x512, .f32⟩
  | 79 => ⟨S16384x512, .f32⟩
  | 80 => ⟨S_, .f32⟩
  | 81 => ⟨S16384, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384x1, .f32⟩
  | 88 => ⟨S16384x1, .f32⟩
  | 89 => ⟨S16384x1, .f32⟩
  | 90 => ⟨S16384x512, .f32⟩
  | 91 => ⟨S16384x512, .f32⟩
  | 92 => ⟨S1x512, .f32⟩
  | 93 => ⟨S16384x512, .f32⟩
  | 94 => ⟨S16384x512, .f32⟩
  | 95 => ⟨S128x16384, .f32⟩
  | 96 => ⟨S128x16384, .f32⟩
  | 97 => ⟨S512x512, .f32⟩
  | 98 => ⟨S16384x512, .f32⟩
  | 99 => ⟨S16384x128x4, .f32⟩
  | 100 => ⟨S128x16384x4, .f32⟩
  | 101 => ⟨S128x16384, .i32⟩
  | 102 => ⟨S128x16384, .f32⟩
  | 103 => ⟨S128x16384, .i32⟩
  | 104 => ⟨S_, .i32⟩
  | 105 => ⟨S128x16384, .i32⟩
  | 106 => ⟨S128x16384, .i1⟩
  | 107 => ⟨S_, .i32⟩
  | 108 => ⟨S128x16384, .i32⟩
  | 109 => ⟨S128x16384, .i32⟩
  | 110 => ⟨S128x16384, .i32⟩
  | 111 => ⟨S128x16384x1, .i32⟩
  | 112 => ⟨S1, .i32⟩
  | 113 => ⟨S_, .i32⟩
  | 114 => ⟨S128x16384x1, .i32⟩
  | 115 => ⟨S128x16384x1, .i1⟩
  | 116 => ⟨S1x1x1, .i32⟩
  | 117 => ⟨S128x16384x1, .i32⟩
  | 118 => ⟨S128x16384x1, .i1⟩
  | 119 => ⟨S128x16384x1, .i1⟩
  | 120 => ⟨S_, .i1⟩
  | 121 => ⟨S128x16384, .i1⟩
  | 122 => ⟨S128x16384, .f32⟩
  | 123 => ⟨S_, .f32⟩
  | 124 => ⟨S128x16384, .f32⟩
  | 125 => ⟨S128x16384, .f32⟩
  | 126 => ⟨S128x16384x1, .i32⟩
  | 127 => ⟨S_, .i32⟩
  | _ => ⟨S1x16384, .i32⟩

abbrev hbmTy0_2 (i : Nat) : BufTy := match i % 128 with
  | 0 => ⟨S128x16384x1, .i32⟩
  | 1 => ⟨S128x16384x1, .i1⟩
  | 2 => ⟨S_, .i32⟩
  | 3 => ⟨S128x16384x1, .i32⟩
  | 4 => ⟨S128x16384x1, .i32⟩
  | 5 => ⟨S128x16384x1, .i32⟩
  | 6 => ⟨S1, .i32⟩
  | 7 => ⟨S_, .i32⟩
  | 8 => ⟨S128x16384x1, .i32⟩
  | 9 => ⟨S128x16384x1, .i1⟩
  | 10 => ⟨S1x1x1, .i32⟩
  | 11 => ⟨S128x16384x1, .i32⟩
  | 12 => ⟨S128x16384x1, .i1⟩
  | 13 => ⟨S128x16384x1, .i1⟩
  | 14 => ⟨S_, .i1⟩
  | 15 => ⟨S128x16384, .i1⟩
  | 16 => ⟨S128x16384x4, .f32⟩
  | 17 => ⟨S128x16384x4, .i1⟩
  | 18 => ⟨S_, .f32⟩
  | 19 => ⟨S128x16384x4, .f32⟩
  | 20 => ⟨S128x16384x4, .f32⟩
  | 21 => ⟨S128x32, .f32⟩
  | 22 => ⟨S128x32, .f32⟩
  | 23 => ⟨S128x32x4, .f32⟩
  | 24 => ⟨S128x32x4, .f32⟩
  | 25 => ⟨S128x16384x1, .f32⟩
  | 26 => ⟨S128x1x32, .f32⟩
  | 27 => ⟨S128x16384x32, .f32⟩
  | 28 => ⟨S128x16384x32, .f32⟩
  | 29 => ⟨S128x16384x32, .f32⟩
  | 30 => ⟨S_, .f32⟩
  | 31 => ⟨S128x16384, .f32⟩
  | 32 => ⟨S_, .f32⟩
  | 33 => ⟨S128x16384, .f32⟩
  | 34 => ⟨S128x16384, .f32⟩
  | 35 => ⟨S128x16384x1, .f32⟩
  | 36 => ⟨S128x16384x32, .f32⟩
  | 37 => ⟨S128x16384x32, .f32⟩
  | 38 => ⟨S128x16384x32, .f32⟩
  | 39 => ⟨S_, .f32⟩
  | 40 => ⟨S128x16384, .f32⟩
  | 41 => ⟨S128x16384x1, .f32⟩
  | 42 => ⟨S128x16384x32, .f32⟩
  | 43 => ⟨S128x16384x32, .f32⟩
  | 44 => ⟨S128x16384x1, .f32⟩
  | 45 => ⟨S128x1x32, .f32⟩
  | 46 => ⟨S128x16384x32, .f32⟩
  | 47 => ⟨S128x16384x32, .f32⟩
  | 48 => ⟨S128x16384x32, .f32⟩
  | 49 => ⟨S_, .f32⟩
  | 50 => ⟨S128x16384, .f32⟩
  | 51 => ⟨S_, .f32⟩
  | 52 => ⟨S128x16384, .f32⟩
  | 53 => ⟨S128x16384, .f32⟩
  | 54 => ⟨S128x16384x1, .f32⟩
  | 55 => ⟨S128x16384x32, .f32⟩
  | 56 => ⟨S128x16384x32, .f32⟩
  | 57 => ⟨S128x16384x32, .f32⟩
  | 58 => ⟨S_, .f32⟩
  | 59 => ⟨S128x16384, .f32⟩
  | 60 => ⟨S128x16384x1, .f32⟩
  | 61 => ⟨S128x16384x32, .f32⟩
  | 62 => ⟨S128x16384x32, .f32⟩
  | 63 => ⟨S128x16384x4, .f32⟩
  | 64 => ⟨S128x16384x4, .f32⟩
  | 65 => ⟨S_, .f32⟩
  | 66 => ⟨S128x16384, .f32⟩
  | 67 => ⟨S128x16384, .i1⟩
  | 68 => ⟨S128x16384, .f32⟩
  | 69 => ⟨S128x16384x1, .f32⟩
  | 70 => ⟨S128x16384x4, .f32⟩
  | 71 => ⟨S128x16384x4, .f32⟩
  | 72 => ⟨S_, .f32⟩
  | 73 => ⟨S128x16384x1, .f32⟩
  | 74 => ⟨S128x16384x1, .f32⟩
  | 75 => ⟨S128x16384x4, .f32⟩
  | 76 => ⟨S128x16384x4, .f32⟩
  | 77 => ⟨S128x16384x4, .f32⟩
  | 78 => ⟨S16384x128x4, .f32⟩
  | 79 => ⟨S16384x512, .f32⟩
  | 80 => ⟨S512x512, .f32⟩
  | 81 => ⟨S16384x512, .f32⟩
  | 82 => ⟨S16384x512, .f32⟩
  | 83 => ⟨S16384x512, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S_, .f32⟩
  | 91 => ⟨S16384x1, .f32⟩
  | 92 => ⟨S16384x1, .f32⟩
  | 93 => ⟨S16384x1, .f32⟩
  | 94 => ⟨S16384x512, .f32⟩
  | 95 => ⟨S16384x512, .f32⟩
  | 96 => ⟨S1x512, .f32⟩
  | 97 => ⟨S16384x512, .f32⟩
  | 98 => ⟨S16384x512, .f32⟩
  | 99 => ⟨S512x1365, .f32⟩
  | 100 => ⟨S16384x1365, .f32⟩
  | 101 => ⟨S16384x1365, .f32⟩
  | 102 => ⟨S16384x1365, .f32⟩
  | 103 => ⟨S_, .f32⟩
  | 104 => ⟨S16384x1365, .f32⟩
  | 105 => ⟨S16384x1365, .f32⟩
  | 106 => ⟨S_, .f32⟩
  | 107 => ⟨S16384x1365, .f32⟩
  | 108 => ⟨S16384x1365, .f32⟩
  | 109 => ⟨S16384x1365, .f32⟩
  | 110 => ⟨S512x1365, .f32⟩
  | 111 => ⟨S16384x1365, .f32⟩
  | 112 => ⟨S16384x1365, .f32⟩
  | 113 => ⟨S1365x512, .f32⟩
  | 114 => ⟨S16384x512, .f32⟩
  | 115 => ⟨S16384x512, .f32⟩
  | 116 => ⟨S16384x512, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S_, .f32⟩
  | 124 => ⟨S16384x1, .f32⟩
  | 125 => ⟨S16384x1, .f32⟩
  | 126 => ⟨S16384x1, .f32⟩
  | 127 => ⟨S16384x512, .f32⟩
  | _ => ⟨S1x16384, .i32⟩

abbrev hbmTy0_3 (i : Nat) : BufTy := match i % 128 with
  | 0 => ⟨S16384x512, .f32⟩
  | 1 => ⟨S1x512, .f32⟩
  | 2 => ⟨S16384x512, .f32⟩
  | 3 => ⟨S16384x512, .f32⟩
  | 4 => ⟨S512x256, .f32⟩
  | 5 => ⟨S16384x256, .f32⟩
  | 6 => ⟨S1x16384x256, .f32⟩
  | _ => ⟨S1x16384, .i32⟩

abbrev hbmTy (i : Nat) : BufTy := match i / 128 with
  | 0 => hbmTy0_0 i
  | 1 => hbmTy0_1 i
  | 2 => hbmTy0_2 i
  | 3 => hbmTy0_3 i
  | _ => ⟨S1x16384, .i32⟩

abbrev bufTy : (tb : Table) → Fin (tcTables nBuf tb) → BufTy
  | .hbm, ⟨i, _⟩ => hbmTy i
  | _, _ => ⟨S1x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_c : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call0_v0 : Ref sig .tc := ⟨.hbm, 64, rfl⟩
abbrev main_call0_v1_0 : Ref sig .tc := ⟨.hbm, 65, rfl⟩
abbrev main_v34 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_cst : Ref sig .tc := ⟨.hbm, 86, rfl⟩
abbrev main_call1_v14 : Ref sig .tc := ⟨.hbm, 87, rfl⟩
abbrev main_v35 : Ref sig .tc := ⟨.hbm, 88, rfl⟩
abbrev main_v36 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_1 : Ref sig .tc := ⟨.hbm, 97, rfl⟩
abbrev main_call2_c_2 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_c_3 : Ref sig .tc := ⟨.hbm, 105, rfl⟩
abbrev main_call2_v11 : Ref sig .tc := ⟨.hbm, 106, rfl⟩
abbrev main_call2_v12 : Ref sig .tc := ⟨.hbm, 107, rfl⟩
abbrev main_call2_v13 : Ref sig .tc := ⟨.hbm, 108, rfl⟩
abbrev main_call2_cst : Ref sig .tc := ⟨.hbm, 109, rfl⟩
abbrev main_call2_v14 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_cst_3 : Ref sig .tc := ⟨.hbm, 121, rfl⟩
abbrev main_v47 : Ref sig .tc := ⟨.hbm, 122, rfl⟩
abbrev main_cst_4 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_cst_5 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_cst_6 : Ref sig .tc := ⟨.hbm, 140, rfl⟩
abbrev main_v63 : Ref sig .tc := ⟨.hbm, 141, rfl⟩
abbrev main_cst_7 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_cst_8 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_cst_9 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_cst_10 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_cst_11 : Ref sig .tc := ⟨.hbm, 175, rfl⟩
abbrev main_v93 : Ref sig .tc := ⟨.hbm, 176, rfl⟩
abbrev main_v94 : Ref sig .tc := ⟨.hbm, 177, rfl⟩
abbrev main_cst_12 : Ref sig .tc := ⟨.hbm, 178, rfl⟩
abbrev main_v95 : Ref sig .tc := ⟨.hbm, 179, rfl⟩
abbrev main_v96 : Ref sig .tc := ⟨.hbm, 180, rfl⟩
abbrev main_cst_13 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_call3_v0 : Ref sig .tc := ⟨.hbm, 192, rfl⟩
abbrev main_call3_v1 : Ref sig .tc := ⟨.hbm, 193, rfl⟩
abbrev main_call3_cst : Ref sig .tc := ⟨.hbm, 194, rfl⟩
abbrev main_call3_v2 : Ref sig .tc := ⟨.hbm, 195, rfl⟩
abbrev main_call3_v3 : Ref sig .tc := ⟨.hbm, 196, rfl⟩
abbrev main_call3_cst_0 : Ref sig .tc := ⟨.hbm, 197, rfl⟩
abbrev main_call3_v4 : Ref sig .tc := ⟨.hbm, 198, rfl⟩
abbrev main_call3_v5 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_cst_14 : Ref sig .tc := ⟨.hbm, 208, rfl⟩
abbrev main_v115 : Ref sig .tc := ⟨.hbm, 209, rfl⟩
abbrev main_v116 : Ref sig .tc := ⟨.hbm, 210, rfl⟩
abbrev main_cst_15 : Ref sig .tc := ⟨.hbm, 211, rfl⟩
abbrev main_v117 : Ref sig .tc := ⟨.hbm, 212, rfl⟩
abbrev main_v118 : Ref sig .tc := ⟨.hbm, 213, rfl⟩
abbrev main_cst_16 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_call4_v0 : Ref sig .tc := ⟨.hbm, 229, rfl⟩
abbrev main_call4_v1_0 : Ref sig .tc := ⟨.hbm, 230, rfl⟩
abbrev main_v133 : Ref sig .tc := ⟨.hbm, 231, rfl⟩
abbrev main_call5_c : Ref sig .tc := ⟨.hbm, 232, rfl⟩
abbrev main_call5_v0 : Ref sig .tc := ⟨.hbm, 233, rfl⟩
abbrev main_call5_v1 : Ref sig .tc := ⟨.hbm, 234, rfl⟩
abbrev main_call5_c_0 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_call5_v5 : Ref sig .tc := ⟨.hbm, 239, rfl⟩
abbrev main_call5_c_1 : Ref sig .tc := ⟨.hbm, 240, rfl⟩
abbrev main_call5_c_2 : Ref sig .tc := ⟨.hbm, 241, rfl⟩
abbrev main_call5_v6 : Ref sig .tc := ⟨.hbm, 242, rfl⟩
abbrev main_call5_v7 : Ref sig .tc := ⟨.hbm, 243, rfl⟩
abbrev main_call5_v8 : Ref sig .tc := ⟨.hbm, 244, rfl⟩
abbrev main_call5_v9 : Ref sig .tc := ⟨.hbm, 245, rfl⟩
abbrev main_call5_v10 : Ref sig .tc := ⟨.hbm, 246, rfl⟩
abbrev main_call5_v11 : Ref sig .tc := ⟨.hbm, 247, rfl⟩
abbrev main_call5_c_3 : Ref sig .tc := ⟨.hbm, 248, rfl⟩
abbrev main_call5_v12 : Ref sig .tc := ⟨.hbm, 249, rfl⟩
abbrev main_call5_v13 : Ref sig .tc := ⟨.hbm, 250, rfl⟩
abbrev main_call5_cst : Ref sig .tc := ⟨.hbm, 251, rfl⟩
abbrev main_call5_v14 : Ref sig .tc := ⟨.hbm, 252, rfl⟩
abbrev main_v134 : Ref sig .tc := ⟨.hbm, 253, rfl⟩
abbrev main_v135 : Ref sig .tc := ⟨.hbm, 254, rfl⟩
abbrev main_call6_c : Ref sig .tc := ⟨.hbm, 255, rfl⟩
abbrev main_call6_v0 : Ref sig .tc := ⟨.hbm, 256, rfl⟩
abbrev main_call6_v1 : Ref sig .tc := ⟨.hbm, 257, rfl⟩
abbrev main_call6_c_0 : Ref sig .tc := ⟨.hbm, 258, rfl⟩
abbrev main_call6_v2 : Ref sig .tc := ⟨.hbm, 259, rfl⟩
abbrev main_call6_v3 : Ref sig .tc := ⟨.hbm, 260, rfl⟩
abbrev main_call6_v4 : Ref sig .tc := ⟨.hbm, 261, rfl⟩
abbrev main_call6_c_1 : Ref sig .tc := ⟨.hbm, 262, rfl⟩
abbrev main_call6_c_2 : Ref sig .tc := ⟨.hbm, 263, rfl⟩
abbrev main_call6_v5 : Ref sig .tc := ⟨.hbm, 264, rfl⟩
abbrev main_call6_v6 : Ref sig .tc := ⟨.hbm, 265, rfl⟩
abbrev main_call6_v7 : Ref sig .tc := ⟨.hbm, 266, rfl⟩
abbrev main_call6_v8 : Ref sig .tc := ⟨.hbm, 267, rfl⟩
abbrev main_call6_v9 : Ref sig .tc := ⟨.hbm, 268, rfl⟩
abbrev main_call6_v10 : Ref sig .tc := ⟨.hbm, 269, rfl⟩
abbrev main_call6_c_3 : Ref sig .tc := ⟨.hbm, 270, rfl⟩
abbrev main_call6_v11 : Ref sig .tc := ⟨.hbm, 271, rfl⟩
abbrev main_call6_v12 : Ref sig .tc := ⟨.hbm, 272, rfl⟩
abbrev main_call6_v13 : Ref sig .tc := ⟨.hbm, 273, rfl⟩
abbrev main_call6_cst : Ref sig .tc := ⟨.hbm, 274, rfl⟩
abbrev main_call6_v14 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_cst_17 : Ref sig .tc := ⟨.hbm, 286, rfl⟩
abbrev main_v146 : Ref sig .tc := ⟨.hbm, 287, rfl⟩
abbrev main_cst_18 : Ref sig .tc := ⟨.hbm, 288, rfl⟩
abbrev main_v147 : Ref sig .tc := ⟨.hbm, 289, rfl⟩
abbrev main_v148 : Ref sig .tc := ⟨.hbm, 290, rfl⟩
abbrev main_v149 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_cst_19 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_cst_20 : Ref sig .tc := ⟨.hbm, 305, rfl⟩
abbrev main_v162 : Ref sig .tc := ⟨.hbm, 306, rfl⟩
abbrev main_cst_21 : Ref sig .tc := ⟨.hbm, 307, rfl⟩
abbrev main_v163 : Ref sig .tc := ⟨.hbm, 308, rfl⟩
abbrev main_v164 : Ref sig .tc := ⟨.hbm, 309, rfl⟩
abbrev main_v165 : Ref sig .tc := ⟨.hbm, 310, rfl⟩
abbrev main_v166 : Ref sig .tc := ⟨.hbm, 311, rfl⟩
abbrev main_v167 : Ref sig .tc := ⟨.hbm, 312, rfl⟩
abbrev main_v168 : Ref sig .tc := ⟨.hbm, 313, rfl⟩
abbrev main_cst_22 : Ref sig .tc := ⟨.hbm, 314, rfl⟩
abbrev main_v169 : Ref sig .tc := ⟨.hbm, 315, rfl⟩
abbrev main_v170 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_v174 : Ref sig .tc := ⟨.hbm, 320, rfl⟩
abbrev main_cst_23 : Ref sig .tc := ⟨.hbm, 321, rfl⟩
abbrev main_v175 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_cst_24 : Ref sig .tc := ⟨.hbm, 328, rfl⟩
abbrev main_v181 : Ref sig .tc := ⟨.hbm, 329, rfl⟩
abbrev main_v182 : Ref sig .tc := ⟨.hbm, 330, rfl⟩
abbrev main_v183 : Ref sig .tc := ⟨.hbm, 331, rfl⟩
abbrev main_v184 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_cst_25 : Ref sig .tc := ⟨.hbm, 340, rfl⟩
abbrev main_v192 : Ref sig .tc := ⟨.hbm, 341, rfl⟩
abbrev main_v193 : Ref sig .tc := ⟨.hbm, 342, rfl⟩
abbrev main_cst_26 : Ref sig .tc := ⟨.hbm, 343, rfl⟩
abbrev main_v194 : Ref sig .tc := ⟨.hbm, 344, rfl⟩
abbrev main_v195 : Ref sig .tc := ⟨.hbm, 345, rfl⟩
abbrev main_cst_27 : Ref sig .tc := ⟨.hbm, 346, rfl⟩
abbrev main_v196 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_v200 : Ref sig .tc := ⟨.hbm, 351, rfl⟩
abbrev main_v201 : Ref sig .tc := ⟨.hbm, 352, rfl⟩
abbrev main_v202 : Ref sig .tc := ⟨.hbm, 353, rfl⟩
abbrev main_v203 : Ref sig .tc := ⟨.hbm, 354, rfl⟩
abbrev main_v204 : Ref sig .tc := ⟨.hbm, 355, rfl⟩
abbrev main_v205 : Ref sig .tc := ⟨.hbm, 356, rfl⟩
abbrev main_call7_v0 : Ref sig .tc := ⟨.hbm, 357, rfl⟩
abbrev main_call7_v1 : Ref sig .tc := ⟨.hbm, 358, rfl⟩
abbrev main_call7_cst : Ref sig .tc := ⟨.hbm, 359, rfl⟩
abbrev main_call7_v2 : Ref sig .tc := ⟨.hbm, 360, rfl⟩
abbrev main_call7_v3 : Ref sig .tc := ⟨.hbm, 361, rfl⟩
abbrev main_call7_cst_0 : Ref sig .tc := ⟨.hbm, 362, rfl⟩
abbrev main_call7_v4 : Ref sig .tc := ⟨.hbm, 363, rfl⟩
abbrev main_call7_v5 : Ref sig .tc := ⟨.hbm, 364, rfl⟩
abbrev main_v206 : Ref sig .tc := ⟨.hbm, 365, rfl⟩
abbrev main_v207 : Ref sig .tc := ⟨.hbm, 366, rfl⟩
abbrev main_v208 : Ref sig .tc := ⟨.hbm, 367, rfl⟩
abbrev main_v209 : Ref sig .tc := ⟨.hbm, 368, rfl⟩
abbrev main_v210 : Ref sig .tc := ⟨.hbm, 369, rfl⟩
abbrev main_v211 : Ref sig .tc := ⟨.hbm, 370, rfl⟩
abbrev main_v212 : Ref sig .tc := ⟨.hbm, 371, rfl⟩
abbrev main_v213 : Ref sig .tc := ⟨.hbm, 372, rfl⟩
abbrev main_cst_28 : Ref sig .tc := ⟨.hbm, 373, rfl⟩
abbrev main_v214 : Ref sig .tc := ⟨.hbm, 374, rfl⟩
abbrev main_v215 : Ref sig .tc := ⟨.hbm, 375, rfl⟩
abbrev main_cst_29 : Ref sig .tc := ⟨.hbm, 376, rfl⟩
abbrev main_v216 : Ref sig .tc := ⟨.hbm, 377, rfl⟩
abbrev main_v217 : Ref sig .tc := ⟨.hbm, 378, rfl⟩
abbrev main_cst_30 : Ref sig .tc := ⟨.hbm, 379, rfl⟩
abbrev main_v218 : Ref sig .tc := ⟨.hbm, 380, rfl⟩
abbrev main_v219 : Ref sig .tc := ⟨.hbm, 381, rfl⟩
abbrev main_v220 : Ref sig .tc := ⟨.hbm, 382, rfl⟩
abbrev main_v221 : Ref sig .tc := ⟨.hbm, 383, rfl⟩
abbrev main_v222 : Ref sig .tc := ⟨.hbm, 384, rfl⟩
abbrev main_v223 : Ref sig .tc := ⟨.hbm, 385, rfl⟩
abbrev main_v224 : Ref sig .tc := ⟨.hbm, 386, rfl⟩
abbrev main_v225 : Ref sig .tc := ⟨.hbm, 387, rfl⟩
abbrev main_v226 : Ref sig .tc := ⟨.hbm, 388, rfl⟩
abbrev main_v227 : Ref sig .tc := ⟨.hbm, 389, rfl⟩
abbrev main_v228 : Ref sig .tc := ⟨.hbm, 390, rfl⟩

abbrev nD : Nat := 1
abbrev τ : Topo := Topo.v7x

variable {F : FTy → Type} [FloatOps F]
-- ==== Proof.Rows.lean ====
/-
  One row of the network, as plain sums over extended reals: what both programs compute for one query position.
  The matrices are functions of their coordinates; a row of activations is a function on its 512 features.
-/
module

public import Idealize.ShloMosaic.Lib.Pointwise
public import Idealize.ShloMosaic.Lib.SortFacts

@[expose] public section

noncomputable section

namespace Cert.Rows

open Idealize.ShloMosaic

/-- The divisor of the mean of squares, as the programs spell it. -/
abbrev width : EReal := Ideal.ofBits .f32 0x44000000#32

/-- The constant added under the root, as the programs spell it. -/
abbrev eps : EReal := Ideal.ofBits .f32 0x34000000#32

/-- Root-mean-square normalisation of a row `x` with gains `n`. -/
def rms (x n : Fin 512 → EReal) (d : Fin 512) : EReal :=
  x d * Ideal.rsqrt (Ideal.div (∑ e, x e * x e) width + eps) * n d

/-- Softmax attention of one query scalar `q` over 32 key scalars with the shift `m` subtracted in the exponent,
    applied to one component `v` of the values. -/
def softmaxDot (q : EReal) (key : Fin 32 → EReal) (m : EReal) (v : Fin 32 → EReal) : EReal :=
  ∑ k, Ideal.div (Ideal.exp (q * key k - m)) (∑ j, Ideal.exp (q * key j - m)) * v k

/-- The attention of one query scalar: a positive query attends over the top keys (sorted upwards, so the greatest
    score is at the last of them), any other over the bottom keys (the greatest score is at the first). -/
def attn (q : EReal) (tk bk tv bv : Fin 32 → EReal) : EReal :=
  if 0 < q then softmaxDot q tk (q * tk 31) tv else softmaxDot q bk (q * bk 0) bv

/-- The feature `4 h + c` of a row is component `c` of head `h`. -/
def head (e : Fin 512) : Fin 128 := ⟨e.val / 4, by omega⟩

/-- The component of the feature within its head. -/
def comp (e : Fin 512) : Fin 4 := ⟨e.val % 4, by omega⟩

/-- A row plus its attention output through the output projection. -/
def mix (x att : Fin 512 → EReal) (wo : Fin 512 → Fin 512 → EReal) (d : Fin 512) : EReal :=
  x d + ∑ e, att e * wo e d

/-- The gated feed-forward unit's hidden activations from a normalised row. -/
def gated (xn : Fin 512 → EReal) (wg wu : Fin 512 → Fin 1365 → EReal) (h : Fin 1365) : EReal :=
  (∑ e, xn e * wg e h) * Ideal.logistic (∑ e, xn e * wg e h) * (∑ e, xn e * wu e h)

/-- The feed-forward step with its residual. -/
def ffn (y n2 : Fin 512 → EReal) (wg wu : Fin 512 → Fin 1365 → EReal) (wd : Fin 1365 → Fin 512 → EReal)
    (d : Fin 512) : EReal :=
  y d + ∑ h, gated (rms y n2) wg wu h * wd h d

/-- One layer on one row: `q h` the row's query of head `h`, `tk k h` … the selected keys and values. -/
def layer (x : Fin 512 → EReal) (q : Fin 128 → EReal) (tk bk : Fin 32 → Fin 128 → EReal)
    (tv bv : Fin 32 → Fin 4 → Fin 128 → EReal) (wo : Fin 512 → Fin 512 → EReal) (n2 : Fin 512 → EReal)
    (wg wu : Fin 512 → Fin 1365 → EReal) (wd : Fin 1365 → Fin 512 → EReal) : Fin 512 → EReal :=
  ffn (mix x (fun e => attn (q (head e)) (fun k => tk k (head e)) (fun k => bk k (head e))
    (fun k => tv k (comp e) (head e)) (fun k => bv k (comp e) (head e))) wo) n2 wg wu wd

/-- The last projection of a normalised row. -/
def final (x n : Fin 512 → EReal) (w : Fin 512 → Fin 256 → EReal) (o : Fin 256) : EReal :=
  ∑ e, rms x n e * w e o

/-- The place, among the values `key`, of each of them in upward order; values that do not compare below keep theirs. -/
def order (key : Fin 16384 → EReal) : Fin 16384 → Fin 16384 :=
  sortedFrom (fun k k' => decide (key k < key k'))

/-- The slot of the `k`-th of the last 32 in upward order. -/
def topSlot (k : Fin 32) : Fin 16384 := ⟨16352 + k.val, by omega⟩

/-- The slot of the `k`-th of the first 32. -/
def botSlot (k : Fin 32) : Fin 16384 := ⟨k.val, by omega⟩

/-- The feature of component `c` of head `h`. -/
def feature (h : Fin 128) (c : Fin 4) : Fin 512 := ⟨h.val * 4 + c.val, by omega⟩

/-- The query, or the key, of head `h` at position `s` of the sequence `x`. -/
def proj (x : Fin 16384 → Fin 512 → EReal) (n : Fin 512 → EReal) (w : Fin 128 → Fin 512 → EReal) (h : Fin 128)
    (s : Fin 16384) : EReal := ∑ d, w h d * rms (x s) n d

/-- Component `c` of the value of head `h` at position `s`. -/
def value (x : Fin 16384 → Fin 512 → EReal) (n : Fin 512 → EReal) (w : Fin 512 → Fin 512 → EReal) (h : Fin 128) (c : Fin 4)
    (s : Fin 16384) : EReal := ∑ d, rms (x s) n d * w (feature h c) d

/-- The key of head `h` in slot `j` of the upward order. -/
def keyAt (x : Fin 16384 → Fin 512 → EReal) (n : Fin 512 → EReal) (wk : Fin 128 → Fin 512 → EReal) (h : Fin 128)
    (j : Fin 16384) : EReal := proj x n wk h (order (proj x n wk h) j)

/-- Component `c` of the value of head `h` in slot `j` of the keys' upward order. -/
def valueAt (x : Fin 16384 → Fin 512 → EReal) (n : Fin 512 → EReal) (wk : Fin 128 → Fin 512 → EReal)
    (wv : Fin 512 → Fin 512 → EReal) (h : Fin 128) (c : Fin 4) (j : Fin 16384) : EReal :=
  value x n wv h c (order (proj x n wk h) j)

/-- One layer on the whole sequence: the keys and values of the 32 greatest and the 32 least keys of each head are
    shared by all positions. The matrices are read as they are stored: an output feature, then an input feature. -/
def layerRows (x : Fin 16384 → Fin 512 → EReal) (n1 : Fin 512 → EReal) (wq wk : Fin 128 → Fin 512 → EReal)
    (wv wo : Fin 512 → Fin 512 → EReal) (n2 : Fin 512 → EReal) (wg wu : Fin 1365 → Fin 512 → EReal)
    (wd : Fin 512 → Fin 1365 → EReal) (s : Fin 16384) : Fin 512 → EReal :=
  layer (x s) (fun h => proj x n1 wq h s) (fun k h => keyAt x n1 wk h (topSlot k)) (fun k h => keyAt x n1 wk h (botSlot k))
    (fun k c h => valueAt x n1 wk wv h c (topSlot k)) (fun k c h => valueAt x n1 wk wv h c (botSlot k))
    (fun e d => wo d e) n2 (fun e h => wg h e) (fun e h => wu h e) (fun h d => wd d h)

end Cert.Rows

end
-- ==== Proof.KerLayer.lean ====
/-
  What the kernel's host operations compute before each of its two layer regions, as whole-array functions in the
  operations the kernel is printed in. Both layers are these functions at their own arguments.
-/
module

public import proofs.«01_k».proof.Proof.Gen.KernelIdeal
public import proofs.«01_k».proof.Proof.Rows

@[expose] public section

noncomputable section

namespace Cert.KerLayer

open Cert.KernelIdeal Cert.KernelIdeal.Gen Idealize.ShloMosaic

/-- The embedded rows: token, block and local position. -/
def embedK (t : IVec S1x16384 32) (e : FVec Ideal S256x512 .f32) (bp : FVec Ideal S64x512 .f32) (lp : FVec Ideal S256x512 .f32) :
    FVec Ideal S1x16384x512 .f32 :=
  addf (addf (Host.gather gather_S256x512_S1x16384x1_S1x16384x512_2_0_n_n_0_2_1512 e
      (broadcastInDim S1x16384x1 ![0, 1] bcast_S1x16384_S1x16384x1_0_1
        (select (cmpi .slt t (broadcastInDim S1x16384 ![] bcast_S_S1x16384 (constantI S_ 32 0#32)))
          (addi t (broadcastInDim S1x16384 ![] bcast_S_S1x16384 (constantI S_ 32 256#32))) t)))
      (broadcastInDim S1x16384x512 ![1, 2] bcast_S16384x512_S1x16384x512_1_2
        (shapeCast S16384x512 (broadcastInDim S64x256x512 ![0, 2] bcast_S64x512_S64x256x512_0_2 bp) shapeCasts_S64x256x512_S16384x512)))
    (broadcastInDim S1x16384x512 ![1, 2] bcast_S16384x512_S1x16384x512_1_2
      (shapeCast S16384x512 (broadcastInDim S64x256x1x512 ![0, 1, 2, 3] bcast_S1x256x1x512_S64x256x1x512_0_1_2_3
        (shapeCast S1x256x1x512 lp shapeCasts_S256x512_S1x256x1x512)) shapeCasts_S64x256x1x512_S16384x512))

/-- Root-mean-square normalisation of every row. -/
def rmsK (x : FVec Ideal S1x16384x512 .f32) (n : FVec Ideal S512 .f32) : FVec Ideal S1x16384x512 .f32 :=
  mulf (mulf x (broadcastInDim S1x16384x512 ![0, 1, 2] bcast_S1x16384x1_S1x16384x512_0_1_2
    (Host.rsqrt (addf (Host.divf (broadcastInDim S1x16384x1 ![0, 1] bcast_S1x16384_S1x16384x1_0_1
      (Host.reduceAdd (mulf x x) (constant S_ .f32 0x00000000#32) reducesTo_S1x16384x512_S1x16384_d2 h_S_))
      (broadcastInDim S1x16384x1 ![] bcast_S_S1x16384x1 (constant S_ .f32 0x44000000#32)))
      (broadcastInDim S1x16384x1 ![] bcast_S_S1x16384x1 (constant S_ .f32 0x34000000#32))))))
    (broadcastInDim S1x16384x512 ![0, 1, 2] bcast_S1x1x512_S1x16384x512_0_1_2
      (broadcastInDim S1x1x512 ![2] bcast_S512_S1x1x512_2 n))

/-- One scalar per head and position: the queries, and the keys. -/
def projK (xn : FVec Ideal S1x16384x512 .f32) (w : FVec Ideal S128x512 .f32) : FVec Ideal S1x128x16384 .f32 :=
  transpose S1x128x16384 [1, 0, 2]
    (Host.dotGeneral dot_S128x512_S1x16384x512_S128x1x16384_1_2_0_01_n_n none w xn)
    transposes_S128x1x16384_S1x128x16384_1_0_2

/-- The values, four components per head and position. -/
def valK (xn : FVec Ideal S1x16384x512 .f32) (w : FVec Ideal S512x512 .f32) : FVec Ideal S1x128x16384x4 .f32 :=
  transpose S1x128x16384x4 [0, 2, 1, 3]
    (shapeCast S1x16384x128x4 (Host.dotGeneral dot_S1x16384x512_S512x512_S1x16384x512_2_0_01_1_n_n none xn
      (transpose S512x512 [1, 0] w transposes_S512x512_S512x512_1_0)) shapeCasts_S1x16384x512_S1x16384x128x4)
    transposes_S1x16384x128x4_S1x128x16384x4_0_2_1_3

/-- The positions of each head's keys in upward order of the keys. -/
def orderK (keys : FVec Ideal S1x128x16384 .f32) : IVec S1x128x16384 32 :=
  (Host.sort2 S1x128x16384 2 comparator_f32_i32_d2 keys (iotaInDim S1x128x16384 32 2)).2

/-- The last 32 positions. -/
def topI (i : IVec S1x128x16384 32) : IVec S1x128x32 32 :=
  extractStridedSlice S1x128x32 ![0, 0, 16352] i slices_S1x128x16384_S1x128x32_0_0_16352

/-- The first 32 positions. -/
def botI (i : IVec S1x128x16384 32) : IVec S1x128x32 32 :=
  extractStridedSlice S1x128x32 ![0, 0, 0] i slices_S1x128x16384_S1x128x32_0_0_0

/-- Positions with a trailing axis of size one. -/
def unitI (i : IVec S1x128x32 32) : IVec S1x128x32x1 32 :=
  broadcastInDim S1x128x32x1 ![0, 1, 2] bcast_S1x128x32_S1x128x32x1_0_1_2 i

/-- A position wrapped round where it is negative, one word per head and slot. -/
def wrapK (idx : IVec S1x128x32 32) : IVec S128x32x1 32 :=
  shapeCast S128x32x1 (select (cmpi .slt idx (broadcastInDim S1x128x32 ![] bcast_S_S1x128x32 (constantI S_ 32 0#32)))
    (addi idx (broadcastInDim S1x128x32 ![] bcast_S_S1x128x32 (constantI S_ 32 16384#32))) idx)
    shapeCasts_S1x128x32_S128x32x1

/-- The same from positions with a trailing axis of size one. -/
def wrapV (idx : IVec S1x128x32x1 32) : IVec S128x32x1 32 :=
  shapeCast S128x32x1 (select (cmpi .slt idx (broadcastInDim S1x128x32x1 ![] bcast_S_S1x128x32x1 (constantI S_ 32 0#32)))
    (addi idx (broadcastInDim S1x128x32x1 ![] bcast_S_S1x128x32x1 (constantI S_ 32 16384#32))) idx)
    shapeCasts_S1x128x32x1_S128x32x1

/-- Whether a position is within the sequence. -/
def insideK (i : IVec S128x32x1 32) : IVec S128x32 1 :=
  Host.reduce IntOp.andi (andi (cmpi .sge i (broadcastInDim S128x32x1 ![] bcast_S_S128x32x1 (constantI S_ 32 0#32)))
    (cmpi .sle i (broadcastInDim S128x32x1 ![0, 1, 2] bcast_S1x1x1_S128x32x1_0_1_2
      (broadcastInDim S1x1x1 ![2] bcast_S1_S1x1x1_2 (constantI S1 32 16383#32)))))
    (constantI S_ 1 1#1) reducesTo_S128x32x1_S128x32_d2 h_S_

/-- The keys taken along the sequence at the positions `idx`. -/
def takeK (keys : FVec Ideal S1x128x16384 .f32) (idx : IVec S1x128x32 32) : FVec Ideal S1x128x32 .f32 :=
  select (broadcastInDim S1x128x32 ![1, 2] bcast_S128x32_S1x128x32_1_2 (insideK (wrapK idx)))
    (Host.gather gather_S1x128x16384_S128x32x1_S1x128x32_0_2_1_0_2_2_111 keys (wrapK idx))
    (broadcastInDim S1x128x32 ![] bcast_S_S1x128x32 (constant S_ .f32 0x7FC00000#32))

/-- The values taken along the sequence at the positions `idx`. -/
def takeV (vals : FVec Ideal S1x128x16384x4 .f32) (idx : IVec S1x128x32x1 32) : FVec Ideal S1x128x32x4 .f32 :=
  select (broadcastInDim S1x128x32x4 ![1, 2] bcast_S128x32_S1x128x32x4_1_2 (insideK (wrapV idx)))
    (Host.gather gather_S1x128x16384x4_S128x32x1_S1x128x32x4_03_2_1_0_2_2_1114 vals (wrapV idx))
    (broadcastInDim S1x128x32x4 ![] bcast_S_S1x128x32x4 (constant S_ .f32 0x7FC00000#32))

/-- Taken keys, one row per slot. -/
def slotK (k : FVec Ideal S1x128x32 .f32) : FVec Ideal S32x128 .f32 :=
  transpose S32x128 [1, 0] (shapeCast S128x32 k shapeCasts_S1x128x32_S128x32) transposes_S128x32_S32x128_1_0

/-- Taken values, one matrix per slot. -/
def slotV (v : FVec Ideal S1x128x32x4 .f32) : FVec Ideal S32x4x128 .f32 :=
  transpose S32x4x128 [1, 2, 0] (shapeCast S128x32x4 v shapeCasts_S1x128x32x4_S128x32x4) transposes_S128x32x4_S32x4x128_1_2_0

/-- The queries, one row per position. -/
def rowsQ (q : FVec Ideal S1x128x16384 .f32) : FVec Ideal S16384x128 .f32 :=
  transpose S16384x128 [1, 0] (shapeCast S128x16384 q shapeCasts_S1x128x16384_S128x16384) transposes_S128x16384_S16384x128_1_0

/-- The rows without their leading axis of size one. -/
def rowsX (x : FVec Ideal S1x16384x512 .f32) : FVec Ideal S16384x512 .f32 :=
  shapeCast S16384x512 x shapeCasts_S1x16384x512_S16384x512

/-- The rows with a leading axis of size one. -/
def liftX (x : FVec Ideal S16384x512 .f32) : FVec Ideal S1x16384x512 .f32 :=
  broadcastInDim S1x16384x512 ![1, 2] bcast_S16384x512_S1x16384x512_1_2 x

end Cert.KerLayer

end
-- ==== Proof.KerHost.lean ====
/-
  What each stretch of the kernel's host operations leaves in the buffers that later operations read, from any contents
  it finds.
-/
module

public import proofs.«01_k».proof.Proof.Gen.KernelIdeal.Frame
public import proofs.«01_k».proof.Proof.KerLayer
public import Idealize.ShloMosaic.Lib.Claim

@[expose] public section

set_option maxRecDepth 16384

noncomputable section

namespace Cert.KerHost

open Cert.KernelIdeal Cert.KernelIdeal.Gen Cert.KerLayer Idealize.ShloMosaic Idealize.ShloMosaic.TcCoe Idealize.ShloMosaic.StableHlo Idealize.SL.Sem

variable (V : Valuation τ sig (Elt Ideal))

/-- The embedded rows. -/
theorem v15 : after hostOps0 V (Proc.devRef .tc main_v15) = embedK (V (Proc.devRef .tc main_arg0)) (V (Proc.devRef .tc main_arg2)) (V (Proc.devRef .tc main_arg3)) (V (Proc.devRef .tc main_arg4)) := by
  after_results_simp
  rfl

/-- The first layer's output weights, turned. -/
theorem v16 : after hostOps0 V (Proc.devRef .tc main_v16) = transpose S512x512 [1, 0] (V (Proc.devRef .tc main_arg9)) transposes_S512x512_S512x512_1_0 := by
  after_results_simp

/-- The first layer's gate weights, turned. -/
theorem v17 : after hostOps0 V (Proc.devRef .tc main_v17) = transpose S512x1365 [1, 0] (V (Proc.devRef .tc main_arg11)) transposes_S1365x512_S512x1365_1_0 := by
  after_results_simp

/-- The first layer's up weights, turned. -/
theorem v18 : after hostOps0 V (Proc.devRef .tc main_v18) = transpose S512x1365 [1, 0] (V (Proc.devRef .tc main_arg12)) transposes_S1365x512_S512x1365_1_0 := by
  after_results_simp

/-- The first layer's down weights, turned. -/
theorem v19 : after hostOps0 V (Proc.devRef .tc main_v19) = transpose S1365x512 [1, 0] (V (Proc.devRef .tc main_arg13)) transposes_S512x1365_S1365x512_1_0 := by
  after_results_simp

/-- The first layer's queries. -/
theorem v34 : after hostOps0 V (Proc.devRef .tc main_v34) = projK (rmsK (embedK (V (Proc.devRef .tc main_arg0)) (V (Proc.devRef .tc main_arg2)) (V (Proc.devRef .tc main_arg3)) (V (Proc.devRef .tc main_arg4))) (V (Proc.devRef .tc main_arg5))) (V (Proc.devRef .tc main_arg6)) := by
  after_results_simp
  rfl

/-- The first layer's keys. -/
theorem v36 : after hostOps0 V (Proc.devRef .tc main_v36) = projK (rmsK (embedK (V (Proc.devRef .tc main_arg0)) (V (Proc.devRef .tc main_arg2)) (V (Proc.devRef .tc main_arg3)) (V (Proc.devRef .tc main_arg4))) (V (Proc.devRef .tc main_arg5))) (V (Proc.devRef .tc main_arg7)) := by
  after_results_simp
  rfl

/-- The first layer's values. -/
theorem v40 : after hostOps0 V (Proc.devRef .tc main_v40) = valK (rmsK (embedK (V (Proc.devRef .tc main_arg0)) (V (Proc.devRef .tc main_arg2)) (V (Proc.devRef .tc main_arg3)) (V (Proc.devRef .tc main_arg4))) (V (Proc.devRef .tc main_arg5))) (V (Proc.devRef .tc main_arg8)) := by
  after_results_simp
  rfl

/-- The first layer's positions in upward order of the keys. -/
theorem v41 : after hostOps0_1 V (Proc.devRef .tc main_v41) = orderK (V (Proc.devRef .tc main_v36)) := by
  after_results_simp
  rfl

/-- Their last 32. -/
theorem v42 : after hostOps0_2 V (Proc.devRef .tc main_v42) = topI (V (Proc.devRef .tc main_v41)) := by
  after_results_simp
  rfl

/-- Their first 32. -/
theorem v43 : after hostOps0_2 V (Proc.devRef .tc main_v43) = botI (V (Proc.devRef .tc main_v41)) := by
  after_results_simp
  rfl

/-- The first layer's greatest keys. -/
theorem v44 : after hostOps0_3 V (Proc.devRef .tc main_v44) = takeK (V (Proc.devRef .tc main_v36)) (V (Proc.devRef .tc main_v42)) := by
  after_results_simp
  rfl

/-- The first layer's least keys. -/
theorem v45 : after hostOps0_4 V (Proc.devRef .tc main_v45) = takeK (V (Proc.devRef .tc main_v36)) (V (Proc.devRef .tc main_v43)) := by
  after_results_simp
  rfl

/-- The last 32 positions with a trailing axis. -/
theorem v46 : after hostOps0_5 V (Proc.devRef .tc main_v46) = unitI (V (Proc.devRef .tc main_v42)) := by
  after_results_simp
  rfl

/-- The first layer's values at the greatest keys. -/
theorem v47 : after hostOps0_6 V (Proc.devRef .tc main_v47) = takeV (V (Proc.devRef .tc main_v40)) (V (Proc.devRef .tc main_v46)) := by
  after_results_simp
  rfl

/-- The first 32 positions with a trailing axis. -/
theorem v48 : after hostOps0_7 V (Proc.devRef .tc main_v48) = unitI (V (Proc.devRef .tc main_v43)) := by
  after_results_simp
  rfl

/-- The first layer's values at the least keys. -/
theorem v49 : after hostOps0_8 V (Proc.devRef .tc main_v49) = takeV (V (Proc.devRef .tc main_v40)) (V (Proc.devRef .tc main_v48)) := by
  after_results_simp
  rfl

/-- The greatest keys by slot. -/
theorem v51 : after hostOps0_9 V (Proc.devRef .tc main_v51) = slotK (V (Proc.devRef .tc main_v44)) := by
  after_results_simp
  rfl

/-- The least keys by slot. -/
theorem v53 : after hostOps0_9 V (Proc.devRef .tc main_v53) = slotK (V (Proc.devRef .tc main_v45)) := by
  after_results_simp
  rfl

/-- The values at the greatest keys by slot. -/
theorem v55 : after hostOps0_9 V (Proc.devRef .tc main_v55) = slotV (V (Proc.devRef .tc main_v47)) := by
  after_results_simp
  rfl

/-- The values at the least keys by slot. -/
theorem v57 : after hostOps0_9 V (Proc.devRef .tc main_v57) = slotV (V (Proc.devRef .tc main_v49)) := by
  after_results_simp
  rfl

/-- The rows. -/
theorem v58 : after hostOps0_9 V (Proc.devRef .tc main_v58) = rowsX (V (Proc.devRef .tc main_v15)) := by
  after_results_simp
  rfl

/-- The queries by row. -/
theorem v60 : after hostOps0_9 V (Proc.devRef .tc main_v60) = rowsQ (V (Proc.devRef .tc main_v34)) := by
  after_results_simp
  rfl

/-- The first layer's rows. -/
theorem v62 : after hostOps1 V (Proc.devRef .tc main_v62) = liftX (V (Proc.devRef .tc main_v61)) := by
  after_results_simp
  rfl

/-- The second layer's output weights, turned. -/
theorem v63 : after hostOps1 V (Proc.devRef .tc main_v63) = transpose S512x512 [1, 0] (V (Proc.devRef .tc main_arg18)) transposes_S512x512_S512x512_1_0 := by
  after_results_simp

/-- The second layer's gate weights, turned. -/
theorem v64 : after hostOps1 V (Proc.devRef .tc main_v64) = transpose S512x1365 [1, 0] (V (Proc.devRef .tc main_arg20)) transposes_S1365x512_S512x1365_1_0 := by
  after_results_simp

/-- The second layer's up weights, turned. -/
theorem v65 : after hostOps1 V (Proc.devRef .tc main_v65) = transpose S512x1365 [1, 0] (V (Proc.devRef .tc main_arg21)) transposes_S1365x512_S512x1365_1_0 := by
  after_results_simp

/-- The second layer's down weights, turned. -/
theorem v66 : after hostOps1 V (Proc.devRef .tc main_v66) = transpose S1365x512 [1, 0] (V (Proc.devRef .tc main_arg22)) transposes_S512x1365_S1365x512_1_0 := by
  after_results_simp

/-- The second layer's queries. -/
theorem v81 : after hostOps1 V (Proc.devRef .tc main_v81) = projK (rmsK (liftX (V (Proc.devRef .tc main_v61))) (V (Proc.devRef .tc main_arg14))) (V (Proc.devRef .tc main_arg15)) := by
  after_results_simp
  rfl

/-- The second layer's keys. -/
theorem v83 : after hostOps1 V (Proc.devRef .tc main_v83) = projK (rmsK (liftX (V (Proc.devRef .tc main_v61))) (V (Proc.devRef .tc main_arg14))) (V (Proc.devRef .tc main_arg16)) := by
  after_results_simp
  rfl

/-- The second layer's values. -/
theorem v87 : after hostOps1 V (Proc.devRef .tc main_v87) = valK (rmsK (liftX (V (Proc.devRef .tc main_v61))) (V (Proc.devRef .tc main_arg14))) (V (Proc.devRef .tc main_arg17)) := by
  after_results_simp
  rfl

/-- The second layer's positions in upward order of the keys. -/
theorem v88 : after hostOps1_1 V (Proc.devRef .tc main_v88) = orderK (V (Proc.devRef .tc main_v83)) := by
  after_results_simp
  rfl

/-- Their last 32. -/
theorem v89 : after hostOps1_2 V (Proc.devRef .tc main_v89) = topI (V (Proc.devRef .tc main_v88)) := by
  after_results_simp
  rfl

/-- Their first 32. -/
theorem v90 : after hostOps1_2 V (Proc.devRef .tc main_v90) = botI (V (Proc.devRef .tc main_v88)) := by
  after_results_simp
  rfl

/-- The second layer's greatest keys. -/
theorem v91 : after hostOps1_3 V (Proc.devRef .tc main_v91) = takeK (V (Proc.devRef .tc main_v83)) (V (Proc.devRef .tc main_v89)) := by
  after_results_simp
  rfl

/-- The second layer's least keys. -/
theorem v92 : after hostOps1_4 V (Proc.devRef .tc main_v92) = takeK (V (Proc.devRef .tc main_v83)) (V (Proc.devRef .tc main_v90)) := by
  after_results_simp
  rfl

/-- The last 32 positions with a trailing axis. -/
theorem v93 : after hostOps1_5 V (Proc.devRef .tc main_v93) = unitI (V (Proc.devRef .tc main_v89)) := by
  after_results_simp
  rfl

/-- The second layer's values at the greatest keys. -/
theorem v94 : after hostOps1_6 V (Proc.devRef .tc main_v94) = takeV (V (Proc.devRef .tc main_v87)) (V (Proc.devRef .tc main_v93)) := by
  after_results_simp
  rfl

/-- The first 32 positions with a trailing axis. -/
theorem v95 : after hostOps1_7 V (Proc.devRef .tc main_v95) = unitI (V (Proc.devRef .tc main_v90)) := by
  after_results_simp
  rfl

/-- The second layer's values at the least keys. -/
theorem v96 : after hostOps1_8 V (Proc.devRef .tc main_v96) = takeV (V (Proc.devRef .tc main_v87)) (V (Proc.devRef .tc main_v95)) := by
  after_results_simp
  rfl

/-- The greatest keys by slot. -/
theorem v98 : after hostOps1_9 V (Proc.devRef .tc main_v98) = slotK (V (Proc.devRef .tc main_v91)) := by
  after_results_simp
  rfl

/-- The least keys by slot. -/
theorem v100 : after hostOps1_9 V (Proc.devRef .tc main_v100) = slotK (V (Proc.devRef .tc main_v92)) := by
  after_results_simp
  rfl

/-- The values at the greatest keys by slot. -/
theorem v102 : after hostOps1_9 V (Proc.devRef .tc main_v102) = slotV (V (Proc.devRef .tc main_v94)) := by
  after_results_simp
  rfl

/-- The values at the least keys by slot. -/
theorem v104 : after hostOps1_9 V (Proc.devRef .tc main_v104) = slotV (V (Proc.devRef .tc main_v96)) := by
  after_results_simp
  rfl

/-- The rows. -/
theorem v105 : after hostOps1_9 V (Proc.devRef .tc main_v105) = rowsX (V (Proc.devRef .tc main_v62)) := by
  after_results_simp
  rfl

/-- The queries by row. -/
theorem v107 : after hostOps1_9 V (Proc.devRef .tc main_v107) = rowsQ (V (Proc.devRef .tc main_v81)) := by
  after_results_simp
  rfl

/-- The second layer's rows. -/
theorem v110 : after hostOps2 V (Proc.devRef .tc main_v110) = rowsX (liftX (V (Proc.devRef .tc main_v108))) := by
  after_results_simp
  rfl

/-- The output weights, turned. -/
theorem v111 : after hostOps2 V (Proc.devRef .tc main_v111) = transpose S512x256 [1, 0] (V (Proc.devRef .tc main_arg24)) transposes_S256x512_S512x256_1_0 := by
  after_results_simp

/-- The result with a leading axis of size one. -/
theorem v113 : after hostOps3 V (Proc.devRef .tc main_v113) = shapeCast S1x16384x256 (V (Proc.devRef .tc main_v112)) shapeCasts_S16384x256_S1x16384x256 := by
  after_results_simp
  rfl

end Cert.KerHost

end
-- ==== Proof.Body.lean ====
/-
  The two layer regions' body read at an element of its block: one row's layer.
-/
module

public import proofs.«01_k».proof.Proof.Gen.KernelIdeal.Frame
public import proofs.«01_k».proof.Proof.Rows

@[expose] public section

set_option maxRecDepth 16384

namespace Cert.Body

open Cert.KernelIdeal Cert.KernelIdeal.Gen Cert.Rows Idealize.ShloMosaic

/-- A choice by the sign of a query. -/
theorem select_pos (q a b : EReal) : Scalar.select (BitVec.ofBool (decide (0 < q))) a b = if 0 < q then a else b := by
  by_cases h : 0 < q <;> simp [h, Scalar.select]

/-- Whether a query is positive. -/
theorem pay4_apply (v0 : FVec Ideal S128x128 .f32) (s h : Fin 128) :
    k0_pay4 (F := Ideal) v0 (ix3 s 0 h) = BitVec.ofBool (decide (0 < v0 (ix2 s h))) := by
  pointwise [k0_pay4, k0_pay3, k0_pay2]

/-- The softmax weight of slot `k`, over the keys the query's sign picks. -/
theorem pay5_apply (v0 : FVec Ideal S128x128 .f32) (v4 v6 : FVec Ideal S32x128 .f32) (s : Fin 128) (k : Fin 32) (h : Fin 128) :
    k0_pay5 (F := Ideal) v0 v4 v6 (ix3 s k h) =
      Ideal.div (Ideal.exp (v0 (ix2 s h) * (if 0 < v0 (ix2 s h) then v4 (ix2 k h) else v6 (ix2 k h)) -
        v0 (ix2 s h) * (if 0 < v0 (ix2 s h) then v4 (ix2 31 h) else v6 (ix2 0 h))))
      (∑ j, Ideal.exp (v0 (ix2 s h) * (if 0 < v0 (ix2 s h) then v4 (ix2 j h) else v6 (ix2 j h)) -
        v0 (ix2 s h) * (if 0 < v0 (ix2 s h) then v4 (ix2 31 h) else v6 (ix2 0 h)))) := by
  simp only [← select_pos]
  pointwise [k0_pay5, k0_pay4, k0_pay3, k0_pay2]

/-- The weighted values, component 0. -/
theorem pay8_apply (v9 : IVec S128x1x128 1) (v42 : FVec Ideal S128x32x128 .f32) (v46 v47 : FVec Ideal S32x4x128 .f32) (s h : Fin 128) :
    k0_pay8 (F := Ideal) v9 v42 v46 v47 (ix2 s h) =
      ∑ k, v42 (ix3 s k h) * Scalar.select (v9 (ix3 s 0 h)) (v46 (ix3 k 0 h)) (v47 (ix3 k 0 h)) := by
  pointwise [k0_pay8, k0_pay7]

/-- The weighted values, component 1. -/
theorem pay9_apply (v9 : IVec S128x1x128 1) (v42 : FVec Ideal S128x32x128 .f32) (v46 v47 : FVec Ideal S32x4x128 .f32) (s h : Fin 128) :
    k0_pay9 (F := Ideal) v9 v42 v46 v47 (ix2 s h) =
      ∑ k, v42 (ix3 s k h) * Scalar.select (v9 (ix3 s 0 h)) (v46 (ix3 k 1 h)) (v47 (ix3 k 1 h)) := by
  pointwise [k0_pay9, k0_pay7]

/-- The weighted values, component 2. -/
theorem pay10_apply (v9 : IVec S128x1x128 1) (v42 : FVec Ideal S128x32x128 .f32) (v46 v47 : FVec Ideal S32x4x128 .f32) (s h : Fin 128) :
    k0_pay10 (F := Ideal) v9 v42 v46 v47 (ix2 s h) =
      ∑ k, v42 (ix3 s k h) * Scalar.select (v9 (ix3 s 0 h)) (v46 (ix3 k 2 h)) (v47 (ix3 k 2 h)) := by
  pointwise [k0_pay10, k0_pay7]

/-- Component 3 of the top values. -/
theorem pay11_apply (v46 : FVec Ideal S32x4x128 .f32) (k : Fin 32) (h : Fin 128) :
    k0_pay11 (F := Ideal) v46 (ix3 0 k h) = v46 (ix3 k 3 h) := by
  pointwise [k0_pay11]

/-- Component 3 of the bottom values. -/
theorem pay12_apply (v47 : FVec Ideal S32x4x128 .f32) (k : Fin 32) (h : Fin 128) :
    k0_pay12 (F := Ideal) v47 (ix3 0 k h) = v47 (ix3 k 3 h) := by
  pointwise [k0_pay12, k0_pay7]

/-- The weighted values, component 3, from its slices. -/
noncomputable def lastLane (v9 : IVec S128x1x128 1) (v42 : FVec Ideal S128x32x128 .f32) (v98 v101 : FVec Ideal S1x32x128 .f32) :
    FVec Ideal S128x128 .f32 :=
  multiReduction .add [1] S128x128 (mulf v42 (select
    (broadcastTo S128x32x128 (shapeCast S128x1x128 v9 shapeCasts_S128x1x128_S128x1x128) broadcasts_S128x1x128_S128x32x128)
    (broadcastTo S128x32x128 (shapeCast S1x32x128 v98 shapeCasts_S1x32x128_S1x32x128) broadcasts_S1x32x128_S128x32x128)
    (broadcastTo S128x32x128 (shapeCast S1x32x128 v101 shapeCasts_S1x32x128_S1x32x128) broadcasts_S1x32x128_S128x32x128)))
    0x00000000#32 reduces_S128x32x128_S128x128 (.inl rfl) rfl

/-- Component 3 at an element. -/
theorem lastLane_apply (v9 : IVec S128x1x128 1) (v42 : FVec Ideal S128x32x128 .f32) (v98 v101 : FVec Ideal S1x32x128 .f32) (s h : Fin 128) :
    lastLane v9 v42 v98 v101 (ix2 s h) =
      ∑ k, v42 (ix3 s k h) * Scalar.select (v9 (ix3 s 0 h)) (v98 (ix3 0 k h)) (v101 (ix3 0 k h)) := by
  pointwise [lastLane]

/-- The four components side by side, feature `4 h + c`. -/
noncomputable def lanes (a b c d : FVec Ideal S128x128 .f32) : FVec Ideal S128x512 .f32 :=
  shapeCast S128x512 (concatenate S128x128x4 2 [⟨S128x128x1, shapeCast S128x128x1 a shapeCasts_S128x128_S128x128x1⟩,
    ⟨S128x128x1, shapeCast S128x128x1 b shapeCasts_S128x128_S128x128x1⟩,
    ⟨S128x128x1, shapeCast S128x128x1 c shapeCasts_S128x128_S128x128x1⟩,
    ⟨S128x128x1, shapeCast S128x128x1 d shapeCasts_S128x128_S128x128x1⟩]
    concatenates_S128x128x1_S128x128x1_S128x128x1_S128x128x1_S128x128x4_d2) shapeCasts_S128x128x4_S128x512

/-- The row with its attention output, from the attention. -/
noncomputable def mixB (att x : FVec Ideal S128x512 .f32) (wo : FVec Ideal S512x512 .f32) : FVec Ideal S128x512 .f32 :=
  addf (shapeCast S128x512 x shapeCasts_S128x512_S128x512)
    (matmul dot_S128x512_S512x512_S128x512_1_0_0_1_n_n none (truncf .bf16 att bitsLt_bf16_f32)
      (truncf .bf16 (shapeCast S512x512 wo shapeCasts_S512x512_S512x512) bitsLt_bf16_f32) (constant S128x512 .f32 0x00000000#32))

/-- The row with its attention output at an element. -/
theorem mixB_apply (att x : FVec Ideal S128x512 .f32) (wo : FVec Ideal S512x512 .f32) (s : Fin 128) (d : Fin 512) :
    mixB att x wo (ix2 s d) = mix (fun e => x (ix2 s e)) (fun e => att (ix2 s e)) (fun e d => wo (ix2 e d)) d := by
  unfold mix
  pointwise [mixB]

/-- The first residual step is the mix of the lanes. -/
theorem pay13_eq (v9 : IVec S128x1x128 1) (v42 : FVec Ideal S128x32x128 .f32) (v65 v80 v95 : FVec Ideal S128x128 .f32)
    (v98 v101 : FVec Ideal S1x32x128 .f32) (x : FVec Ideal S128x512 .f32) (wo : FVec Ideal S512x512 .f32) :
    k0_pay13 (F := Ideal) v9 v42 v65 v80 v95 v98 v101 x wo = mixB (lanes v65 v80 v95 (lastLane v9 v42 v98 v101)) x wo := rfl

/-- Root-mean-square normalisation of the block's rows. -/
noncomputable def rmsB (y : FVec Ideal S128x512 .f32) (n : FVec Ideal S512 .f32) : FVec Ideal S128x512 .f32 :=
  mulf (mulf y (broadcastTo S128x512 (rsqrt (addf (divf (shapeCast S128x1
    (multiReduction .add [1] S128 (mulf y y) 0x00000000#32 reduces_S128x512_S128 (.inl rfl) rfl) shapeCasts_S128_S128x1)
    (broadcast S128x1 (Scalar.ofBits .f32 0x44000000#32))) (broadcast S128x1 (Scalar.ofBits .f32 0x34000000#32))))
    broadcasts_S128x1_S128x512)) (broadcastTo S128x512 (shapeCast S1x512 n shapeCasts_S512_S1x512) broadcasts_S1x512_S128x512)

/-- A normalised row of the block. -/
theorem rmsB_apply (y : FVec Ideal S128x512 .f32) (n : FVec Ideal S512 .f32) (s : Fin 128) (d : Fin 512) :
    rmsB y n (ix2 s d) = rms (fun e => y (ix2 s e)) (fun e => n (ix1 e)) d := by
  unfold rms width eps
  pointwise [rmsB]

/-- An up projection of the block's rows. -/
noncomputable def upB (xn : FVec Ideal S128x512 .f32) (w : FVec Ideal S512x1365 .f32) : FVec Ideal S128x1365 .f32 :=
  matmul dot_S128x512_S512x1365_S128x1365_1_0_0_1_n_n none (truncf .bf16 xn bitsLt_bf16_f32)
    (truncf .bf16 (shapeCast S512x1365 w shapeCasts_S512x1365_S512x1365) bitsLt_bf16_f32) (constant S128x1365 .f32 0x00000000#32)

/-- An up projection at an element. -/
theorem upB_apply (xn : FVec Ideal S128x512 .f32) (w : FVec Ideal S512x1365 .f32) (s : Fin 128) (h : Fin 1365) :
    upB xn w (ix2 s h) = ∑ e, xn (ix2 s e) * w (ix2 e h) := by
  pointwise [upB]

/-- The down projection with its residual. -/
noncomputable def downB (y : FVec Ideal S128x512 .f32) (g u : FVec Ideal S128x1365 .f32) (wd : FVec Ideal S1365x512 .f32) :
    FVec Ideal S128x512 .f32 :=
  addf y (matmul dot_S128x1365_S1365x512_S128x512_1_0_0_1_n_n none (truncf .bf16 (mulf (mulf g (logistic g)) u) bitsLt_bf16_f32)
    (truncf .bf16 (shapeCast S1365x512 wd shapeCasts_S1365x512_S1365x512) bitsLt_bf16_f32) (constant S128x512 .f32 0x00000000#32))

/-- The down projection at an element. -/
theorem downB_apply (y : FVec Ideal S128x512 .f32) (g u : FVec Ideal S128x1365 .f32) (wd : FVec Ideal S1365x512 .f32) (s : Fin 128)
    (d : Fin 512) : downB y g u wd (ix2 s d) =
      y (ix2 s d) + ∑ h, g (ix2 s h) * Ideal.logistic (g (ix2 s h)) * u (ix2 s h) * wd (ix2 h d) := by
  pointwise [downB]

/-- The feed-forward step on the block's rows. -/
theorem ffnB_apply (y : FVec Ideal S128x512 .f32) (n2 : FVec Ideal S512 .f32) (wg wu : FVec Ideal S512x1365 .f32)
    (wd : FVec Ideal S1365x512 .f32) (s : Fin 128) (d : Fin 512) :
    downB y (upB (rmsB y n2) wg) (upB (rmsB y n2) wu) wd (ix2 s d) = ffn (fun e => y (ix2 s e)) (fun e => n2 (ix1 e))
      (fun e h => wg (ix2 e h)) (fun e h => wu (ix2 e h)) (fun h d => wd (ix2 h d)) d := by
  unfold ffn gated
  simp only [downB_apply, upB_apply, rmsB_apply]

/-- The block the body stores, from the row with its attention output. -/
theorem pay1_eq (v9 : IVec S128x1x128 1) (v42 : FVec Ideal S128x32x128 .f32) (v65 v80 v95 : FVec Ideal S128x128 .f32)
    (v98 v101 : FVec Ideal S1x32x128 .f32) (x : FVec Ideal S128x512 .f32) (wo : FVec Ideal S512x512 .f32) (n2 : FVec Ideal S512 .f32)
    (wg wu : FVec Ideal S512x1365 .f32) (wd : FVec Ideal S1365x512 .f32) (y : FVec Ideal S128x512 .f32)
    (hy : k0_pay13 (F := Ideal) v9 v42 v65 v80 v95 v98 v101 x wo = y) :
    k0_pay1 (F := Ideal) (k0_pay13 v9 v42 v65 v80 v95 v98 v101 x wo) (k0_pay15 v9 v42 v65 v80 v95 v98 v101 x wo n2 wg)
      (k0_pay16 wu) (k0_pay17 v9 v42 v65 v80 v95 v98 v101 x wo n2) wd =
      downB y (upB (rmsB y n2) wg) (upB (rmsB y n2) wu) wd := by
  subst hy
  rfl

end Cert.Body

end
-- ==== Proof.BodyLayer.lean ====
/-
  The block a layer region's body stores, at an element: `Rows.layer` of the block's row.
-/
module

public import proofs.«01_k».proof.Proof.Body

@[expose] public section

set_option maxRecDepth 16384

namespace Cert.Body

open Cert.KernelIdeal Cert.KernelIdeal.Gen Cert.Rows Idealize.ShloMosaic

/-- Where each of the four arrays is one component of a function, the lanes are that function at head and component. -/
theorem lanes_apply (a b c d : FVec Ideal S128x128 .f32) (f : Fin 4 → Fin 128 → Fin 128 → EReal)
    (ha : ∀ s h, a (ix2 s h) = f 0 s h) (hb : ∀ s h, b (ix2 s h) = f 1 s h) (hc : ∀ s h, c (ix2 s h) = f 2 s h)
    (hd : ∀ s h, d (ix2 s h) = f 3 s h) (s : Fin 128) (e : Fin 512) :
    lanes a b c d (ix2 s e) = f (comp e) s (head e) := by
  have h4 : comp e = 0 ∨ comp e = 1 ∨ comp e = 2 ∨ comp e = 3 := by
    generalize comp e = c
    fin_cases c <;> simp
  have hv : (comp e).val = e.val % 4 := rfl
  pointwise [lanes]
  rcases h4 with h | h | h | h <;> rw [h] at hv ⊢
  · rw [← ha]
    simp [← hv]
    rfl
  · rw [← hb]
    simp [← hv]
    rfl
  · rw [← hc]
    simp [← hv]
    rfl
  · rw [← hd]
    simp [← hv]
    rfl

/-- A weighted sum over the slots the query's sign picks is the row function `attn`. -/
theorem attn_eq (q : EReal) (tk bk tv bv : Fin 32 → EReal) :
    (∑ k, Ideal.div (Ideal.exp (q * (if 0 < q then tk k else bk k) - q * (if 0 < q then tk 31 else bk 0)))
      (∑ j, Ideal.exp (q * (if 0 < q then tk j else bk j) - q * (if 0 < q then tk 31 else bk 0))) *
      (if 0 < q then tv k else bv k)) = attn q tk bk tv bv := by
  unfold attn softmaxDot
  by_cases h : 0 < q <;> simp only [h, if_true, if_false]

/-- The rounding of the top values leaves them. -/
theorem pay6_eq (x : FVec Ideal S32x4x128 .f32) : k0_pay6 (F := Ideal) x = x := by
  unfold k0_pay6
  exact shapeCast_self ..

/-- The layer regions' stored block at an element. -/
theorem out0_apply (x0 : FVec Ideal S128x512 .f32) (x1 : FVec Ideal S128x128 .f32) (x2 x3 : FVec Ideal S32x128 .f32)
    (x4 x5 : FVec Ideal S32x4x128 .f32) (x6 : FVec Ideal S512x512 .f32) (x7 : FVec Ideal S512 .f32) (x8 x9 : FVec Ideal S512x1365 .f32)
    (x10 : FVec Ideal S1365x512 .f32) (s : Fin 128) (d : Fin 512) :
    out0_11 (F := Ideal) x0 x1 x2 x3 x4 x5 x6 x7 x8 x9 x10 (ix2 s d) =
      layer (fun e => x0 (ix2 s e)) (fun h => x1 (ix2 s h)) (fun k h => x2 (ix2 k h)) (fun k h => x3 (ix2 k h))
        (fun k c h => x4 (ix3 k c h)) (fun k c h => x5 (ix3 k c h)) (fun e d => x6 (ix2 e d)) (fun e => x7 (ix1 e))
        (fun e h => x8 (ix2 e h)) (fun e h => x9 (ix2 e h)) (fun h d => x10 (ix2 h d)) d := by
  unfold_out out0_11
  have h1 : (![0] : Fin 1 → Nat) = fun _ => 0 := by decide
  have h2 : (![0, 0] : Fin 2 → Nat) = fun _ => 0 := by decide
  have h3 : (![0, 0, 0] : Fin 3 → Nat) = fun _ => 0 := by decide
  rw [View.canon_unit_zero h2]
  simp only [View.ld_unit_zero (S := S128x512) h2, View.ld_unit_zero (S := S128x128) h2, View.ld_unit_zero (S := S32x128) h2,
    View.ld_unit_zero (S := S32x4x128) h3, View.ld_unit_zero (S := S512x512) h2, View.ld_unit_zero (S := S512) h1,
    View.ld_unit_zero (S := S512x1365) h2, View.ld_unit_zero (S := S1365x512) h2]
  rw [pay1_eq _ _ _ _ _ _ _ _ _ _ _ _ _ _ rfl, ffnB_apply]
  unfold layer
  refine congrArg (fun y => ffn y (fun e => x7 (ix1 e)) (fun e h => x8 (ix2 e h)) (fun e h => x9 (ix2 e h))
    (fun h d => x10 (ix2 h d)) d) (funext fun e => ?_)
  rw [pay13_eq, mixB_apply]
  refine congrArg (fun a => mix (fun e => x0 (ix2 s e)) a (fun e d => x6 (ix2 e d)) e) (funext fun e => ?_)
  refine lanes_apply _ _ _ _ (fun c s h => attn (x1 (ix2 s h)) (fun k => x2 (ix2 k h)) (fun k => x3 (ix2 k h))
    (fun k => x4 (ix3 k c h)) (fun k => x5 (ix3 k c h))) ?_ ?_ ?_ ?_ s e
  all_goals intro s h
  all_goals rw [← attn_eq]
  · rw [pay8_apply]
    simp only [pay4_apply, pay5_apply, select_pos, pay6_eq]
  · rw [pay9_apply]
    simp only [pay4_apply, pay5_apply, select_pos, pay6_eq]
  · rw [pay10_apply]
    simp only [pay4_apply, pay5_apply, select_pos, pay6_eq]
  · rw [lastLane_apply]
    simp only [pay4_apply, pay5_apply, select_pos, pay6_eq, pay11_apply, pay12_apply]

/-- The second layer region stores what the first does. -/
theorem out1_eq : @out1_11 Ideal _ = @out0_11 Ideal _ := rfl

/-- The last region's stored block at an element. -/
theorem out2_apply (x0 : FVec Ideal S128x512 .f32) (x1 : FVec Ideal S512 .f32) (x2 : FVec Ideal S512x256 .f32) (s : Fin 128)
    (o : Fin 256) : out2_3 (F := Ideal) x0 x1 x2 (ix2 s o) =
      final (fun e => x0 (ix2 s e)) (fun e => x1 (ix1 e)) (fun e o => x2 (ix2 e o)) o := by
  unfold out2_3
  have h1 : (![0] : Fin 1 → Nat) = fun _ => 0 := by decide
  have h2 : (![0, 0] : Fin 2 → Nat) = fun _ => 0 := by decide
  rw [View.canon_unit_zero h2]
  simp only [View.ld_unit_zero (S := S128x512) h2, View.ld_unit_zero (S := S512) h1, View.ld_unit_zero (S := S512x256) h2]
  have hk : k2_pay1 (F := Ideal) x0 x1 x2 = matmul dot_S128x512_S512x256_S128x256_1_0_0_1_n_n none
      (truncf .bf16 (rmsB (shapeCast S128x512 x0 shapeCasts_S128x512_S128x512) x1) bitsLt_bf16_f32)
      (truncf .bf16 (shapeCast S512x256 x2 shapeCasts_S512x256_S512x256) bitsLt_bf16_f32) (constant S128x256 .f32 0x00000000#32) := rfl
  rw [shapeCast_self] at hk
  refine (congrFun hk _).trans ?_
  unfold final
  simp only [← rmsB_apply]
  generalize rmsB x0 x1 = y
  pointwise

end Cert.Body

end
-- ==== Proof.Region0.lean ====
/-
  What the first layer region leaves in its result array, from the arrays it finds.
-/
module

public import proofs.«01_k».proof.Proof.BodyLayer
public import Idealize.ShloMosaic.Lib.Pipeline.ValueKit

@[expose] public section

set_option maxRecDepth 16384

noncomputable section

namespace Cert.Region0

open Cert.KernelIdeal Cert.KernelIdeal.Gen Cert.Rows Cert.Body Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the row windows and of the whole-array windows. -/
theorem idx : ∀ t : Fin cfg0.N, win0_0.index t = ![t.val, 0] ∧ win0_1.index t = ![t.val, 0] ∧ win0_2.index t = ![0, 0] ∧
    win0_3.index t = ![0, 0] ∧ win0_4.index t = ![0, 0, 0] ∧ win0_5.index t = ![0, 0, 0] ∧ win0_6.index t = ![0, 0] ∧
    win0_7.index t = ![0] ∧ win0_8.index t = ![0, 0] ∧ win0_9.index t = ![0, 0] ∧ win0_10.index t = ![0, 0] ∧
    win0_11.index t = ![t.val, 0] := (by decide +kernel : ∀ t : Fin grid0.N, _)

/-- The layer of every row. -/
def G (x : FVec Ideal S16384x512 .f32) (q : FVec Ideal S16384x128 .f32) (tk bk : FVec Ideal S32x128 .f32)
    (tv bv : FVec Ideal S32x4x128 .f32) (wo : FVec Ideal S512x512 .f32) (n2 : FVec Ideal S512 .f32)
    (wg wu : FVec Ideal S512x1365 .f32) (wd : FVec Ideal S1365x512 .f32) : FVec Ideal S16384x512 .f32 := fun i =>
  layer (fun e => x (ix2 (i 0) e)) (fun h => q (ix2 (i 0) h)) (fun k h => tk (ix2 k h)) (fun k h => bk (ix2 k h))
    (fun k c h => tv (ix3 k c h)) (fun k c h => bv (ix3 k c h)) (fun e d => wo (ix2 e d)) (fun e => n2 (ix1 e))
    (fun e h => wg (ix2 e h)) (fun e h => wu (ix2 e h)) (fun h d => wd (ix2 h d)) (i 1)

/-- Window 2's block is its whole array. -/
theorem blk2 (c : Dev nD) (t : Fin cfg0.N) : iblk0 V c 2 t = (V c main_v51 : FVec Ideal S32x128 .f32) := by
  have e := (idx t).2.2.1
  funext j
  show V c main_v51 (((cfg0.win 2).blk t).view.emb j) = V c main_v51 j
  refine congrArg (V c main_v51) (funext fun a => Fin.ext ?_)
  match a with
  | ⟨0, _⟩ => show win0_2.index t (0 : Fin 2) * 32 + 1 * (j 0).val = (j 0).val; rw [e]; simp
  | ⟨1, _⟩ => show win0_2.index t (1 : Fin 2) * 128 + 1 * (j 1).val = (j 1).val; rw [e]; simp

/-- Window 3's block is its whole array. -/
theorem blk3 (c : Dev nD) (t : Fin cfg0.N) : iblk0 V c 3 t = (V c main_v53 : FVec Ideal S32x128 .f32) := by
  have e := (idx t).2.2.2.1
  funext j
  show V c main_v53 (((cfg0.win 3).blk t).view.emb j) = V c main_v53 j
  refine congrArg (V c main_v53) (funext fun a => Fin.ext ?_)
  match a with
  | ⟨0, _⟩ => show win0_3.index t (0 : Fin 2) * 32 + 1 * (j 0).val = (j 0).val; rw [e]; simp
  | ⟨1, _⟩ => show win0_3.index t (1 : Fin 2) * 128 + 1 * (j 1).val = (j 1).val; rw [e]; simp

/-- Window 4's block is its whole array. -/
theorem blk4 (c : Dev nD) (t : Fin cfg0.N) : iblk0 V c 4 t = (V c main_v55 : FVec Ideal S32x4x128 .f32) := by
  have e := (idx t).2.2.2.2.1
  funext j
  show V c main_v55 (((cfg0.win 4).blk t).view.emb j) = V c main_v55 j
  refine congrArg (V c main_v55) (funext fun a => Fin.ext ?_)
  match a with
  | ⟨0, _⟩ => show win0_4.index t (0 : Fin 3) * 32 + 1 * (j 0).val = (j 0).val; rw [e]; simp
  | ⟨1, _⟩ => show win0_4.index t (1 : Fin 3) * 4 + 1 * (j 1).val = (j 1).val; rw [e]; simp
  | ⟨2, _⟩ => show win0_4.index t (2 : Fin 3) * 128 + 1 * (j 2).val = (j 2).val; rw [e]; simp

/-- Window 5's block is its whole array. -/
theorem blk5 (c : Dev nD) (t : Fin cfg0.N) : iblk0 V c 5 t = (V c main_v57 : FVec Ideal S32x4x128 .f32) := by
  have e := (idx t).2.2.2.2.2.1
  funext j
  show V c main_v57 (((cfg0.win 5).blk t).view.emb j) = V c main_v57 j
  refine congrArg (V c main_v57) (funext fun a => Fin.ext ?_)
  match a with
  | ⟨0, _⟩ => show win0_5.index t (0 : Fin 3) * 32 + 1 * (j 0).val = (j 0).val; rw [e]; simp
  | ⟨1, _⟩ => show win0_5.index t (1 : Fin 3) * 4 + 1 * (j 1).val = (j 1).val; rw [e]; simp
  | ⟨2, _⟩ => show win0_5.index t (2 : Fin 3) * 128 + 1 * (j 2).val = (j 2).val; rw [e]; simp

/-- Window 6's block is its whole array. -/
theorem blk6 (c : Dev nD) (t : Fin cfg0.N) : iblk0 V c 6 t = (V c main_v16 : FVec Ideal S512x512 .f32) := by
  have e := (idx t).2.2.2.2.2.2.1
  funext j
  show V c main_v16 (((cfg0.win 6).blk t).view.emb j) = V c main_v16 j
  refine congrArg (V c main_v16) (funext fun a => Fin.ext ?_)
  match a with
  | ⟨0, _⟩ => show win0_6.index t (0 : Fin 2) * 512 + 1 * (j 0).val = (j 0).val; rw [e]; simp
  | ⟨1, _⟩ => show win0_6.index t (1 : Fin 2) * 512 + 1 * (j 1).val = (j 1).val; rw [e]; simp

/-- Window 7's block is its whole array. -/
theorem blk7 (c : Dev nD) (t : Fin cfg0.N) : iblk0 V c 7 t = (V c main_arg10 : FVec Ideal S512 .f32) := by
  have e := (idx t).2.2.2.2.2.2.2.1
  funext j
  show V c main_arg10 (((cfg0.win 7).blk t).view.emb j) = V c main_arg10 j
  refine congrArg (V c main_arg10) (funext fun a => Fin.ext ?_)
  match a with
  | ⟨0, _⟩ => show win0_7.index t (0 : Fin 1) * 512 + 1 * (j 0).val = (j 0).val; rw [e]; simp

/-- Window 8's block is its whole array. -/
theorem blk8 (c : Dev nD) (t : Fin cfg0.N) : iblk0 V c 8 t = (V c main_v17 : FVec Ideal S512x1365 .f32) := by
  have e := (idx t).2.2.2.2.2.2.2.2.1
  funext j
  show V c main_v17 (((cfg0.win 8).blk t).view.emb j) = V c main_v17 j
  refine congrArg (V c main_v17) (funext fun a => Fin.ext ?_)
  match a with
  | ⟨0, _⟩ => show win0_8.index t (0 : Fin 2) * 512 + 1 * (j 0).val = (j 0).val; rw [e]; simp
  | ⟨1, _⟩ => show win0_8.index t (1 : Fin 2) * 1365 + 1 * (j 1).val = (j 1).val; rw [e]; simp

/-- Window 9's block is its whole array. -/
theorem blk9 (c : Dev nD) (t : Fin cfg0.N) : iblk0 V c 9 t = (V c main_v18 : FVec Ideal S512x1365 .f32) := by
  have e := (idx t).2.2.2.2.2.2.2.2.2.1
  funext j
  show V c main_v18 (((cfg0.win 9).blk t).view.emb j) = V c main_v18 j
  refine congrArg (V c main_v18) (funext fun a => Fin.ext ?_)
  match a with
  | ⟨0, _⟩ => show win0_9.index t (0 : Fin 2) * 512 + 1 * (j 0).val = (j 0).val; rw [e]; simp
  | ⟨1, _⟩ => show win0_9.index t (1 : Fin 2) * 1365 + 1 * (j 1).val = (j 1).val; rw [e]; simp

/-- Window 10's block is its whole array. -/
theorem blk10 (c : Dev nD) (t : Fin cfg0.N) : iblk0 V c 10 t = (V c main_v19 : FVec Ideal S1365x512 .f32) := by
  have e := (idx t).2.2.2.2.2.2.2.2.2.2.1
  funext j
  show V c main_v19 (((cfg0.win 10).blk t).view.emb j) = V c main_v19 j
  refine congrArg (V c main_v19) (funext fun a => Fin.ext ?_)
  match a with
  | ⟨0, _⟩ => show win0_10.index t (0 : Fin 2) * 1365 + 1 * (j 0).val = (j 0).val; rw [e]; simp
  | ⟨1, _⟩ => show win0_10.index t (1 : Fin 2) * 512 + 1 * (j 1).val = (j 1).val; rw [e]; simp

/-- A row's place in the array, from its block and its place in the block. -/
def place (t : Fin cfg0.N) (s : Fin 128) : Fin 16384 := ⟨t.val * 128 + s.val, by
  have h : t.val < 128 := t.isLt
  omega⟩

/-- Window 0's block is 128 rows of its array. -/
theorem blk0 (c : Dev nD) (t : Fin cfg0.N) (s : Fin 128) (e : Fin 512) :
    (iblk0 V c 0 t : FVec Ideal S128x512 .f32) (ix2 s e) = (V c main_v58 : FVec Ideal S16384x512 .f32) (ix2 (place t s) e) := by
  have h := (idx t).1
  show V c main_v58 (((cfg0.win 0).blk t).view.emb (ix2 s e)) = _
  refine congrArg (V c main_v58) (funext fun a => Fin.ext ?_)
  match a with
  | ⟨0, _⟩ => show win0_0.index t (0 : Fin 2) * 128 + 1 * s.val = t.val * 128 + s.val; rw [h]; simp
  | ⟨1, _⟩ => show win0_0.index t (1 : Fin 2) * 512 + 1 * e.val = e.val; rw [h]; simp

/-- Window 1's block is 128 rows of its array. -/
theorem blk1 (c : Dev nD) (t : Fin cfg0.N) (s : Fin 128) (e : Fin 128) :
    (iblk0 V c 1 t : FVec Ideal S128x128 .f32) (ix2 s e) = (V c main_v60 : FVec Ideal S16384x128 .f32) (ix2 (place t s) e) := by
  have h := (idx t).2.1
  show V c main_v60 (((cfg0.win 1).blk t).view.emb (ix2 s e)) = _
  refine congrArg (V c main_v60) (funext fun a => Fin.ext ?_)
  match a with
  | ⟨0, _⟩ => show win0_1.index t (0 : Fin 2) * 128 + 1 * s.val = t.val * 128 + s.val; rw [h]; simp
  | ⟨1, _⟩ => show win0_1.index t (1 : Fin 2) * 128 + 1 * e.val = e.val; rw [h]; simp

/-- The result's block is 128 rows of its array. -/
theorem emb11 (t : Fin cfg0.N) (s : Fin 128) (e : Fin 512) :
    ((cfg0.win 11).blk t).view.emb (ix2 s e) = (ix2 (place t s) e : S16384x512.Idx) := by
  have h := (idx t).2.2.2.2.2.2.2.2.2.2.2
  refine funext fun a => Fin.ext ?_
  match a with
  | ⟨0, _⟩ => show win0_11.index t (0 : Fin 2) * 128 + 1 * s.val = t.val * 128 + s.val; rw [h]; simp
  | ⟨1, _⟩ => show win0_11.index t (1 : Fin 2) * 512 + 1 * e.val = e.val; rw [h]; simp

/-- The result array is the layer of every row of the arrays found. -/
theorem final (c : Dev nD) : (dat0 V c).arrAt 11 cfg0.N =
    G (V c main_v58) (V c main_v60) (V c main_v51) (V c main_v53) (V c main_v55) (V c main_v57) (V c main_v16) (V c main_arg10)
      (V c main_v17) (V c main_v18) (V c main_v19) := by
  refine (dat0 V c).arrAt_eq_of_covers 11 _ (by decide +kernel) fun t hf y => ?_
  obtain ⟨s, d, rfl⟩ : ∃ (s : Fin 128) (d : Fin 512), y = (ix2 s d : S128x512.Idx) := ⟨y 0, y 1, by
    funext a
    match a with
    | ⟨0, _⟩ => rfl
    | ⟨1, _⟩ => rfl⟩
  have hk : (dat0 V c).after 11 t = out0_11 (F := Ideal) (iblk0 V c 0 t) (iblk0 V c 1 t) (V c main_v51) (V c main_v53) (V c main_v55)
      (V c main_v57) (V c main_v16) (V c main_arg10) (V c main_v17) (V c main_v18) (V c main_v19) := by
    rw [after0_11, blk2, blk3, blk4, blk5, blk6, blk7, blk8, blk9, blk10]
  refine (congrFun hk (ix2 s d)).trans ?_
  refine Eq.trans ?_ (congrArg (G (V c main_v58) (V c main_v60) (V c main_v51) (V c main_v53) (V c main_v55) (V c main_v57)
    (V c main_v16) (V c main_arg10) (V c main_v17) (V c main_v18) (V c main_v19)) (emb11 t s d)).symm
  refine (out0_apply _ _ _ _ _ _ _ _ _ _ _ s d).trans ?_
  simp only [blk0, blk1]
  rfl

end Cert.Region0

end
-- ==== Proof.Words.lean ====
/-
  Facts about a place in the sequence held as a 32-bit word: it is not negative, it is within the sequence, and it is
  itself when read signed and clamped.
-/
module

public import proofs.«01_k».proof.Proof.Rows

@[expose] public section

set_option maxRecDepth 16384

namespace Cert.Rows

open Idealize.ShloMosaic

/-- A place in the sequence as a word. -/
abbrev word (p : Fin 16384) : BitVec 32 := BitVec.ofNat 32 p.val

/-- Its signed value. -/
theorem word_toInt (p : Fin 16384) : (word p).toInt = (p.val : Int) := by
  have h := p.isLt
  rw [BitVec.toInt_ofNat']
  simp only [Int.bmod]
  omega

/-- Read signed and clamped it is itself. -/
theorem word_clamp (p : Fin 16384) : min (word p).toInt.toNat (16384 - 1) = p.val := by
  have h := p.isLt
  rw [word_toInt]
  omega

/-- The wrap of negative positions leaves it as it is. -/
theorem word_wrap (p : Fin 16384) (y : BitVec 32) :
    Scalar.select (IntOp.cmpi .slt (word p) 0#32) y (word p) = word p := by
  have : IntOp.cmpi .slt (word p) 0#32 = 0#1 := by
    show BitVec.ofBool ((word p).slt 0#32) = 0#1
    rw [BitVec.slt, word_toInt, decide_eq_false (by show ¬ ((p.val : Int) < (0#32).toInt); rw [BitVec.toInt_zero]; omega)]
    rfl
  rw [this]
  rfl

/-- It is within the sequence. -/
theorem word_inside (p : Fin 16384) :
    IntOp.andi (IntOp.cmpi .sge (word p) 0#32) (IntOp.cmpi .sle (word p) 16383#32) = 1#1 := by
  have h1 : IntOp.cmpi .sge (word p) 0#32 = 1#1 := by
    show BitVec.ofBool ((0#32).sle (word p)) = 1#1
    rw [BitVec.sle, word_toInt]
    simp
  have h2 : IntOp.cmpi .sle (word p) 16383#32 = 1#1 := by
    show BitVec.ofBool ((word p).sle 16383#32) = 1#1
    have h := p.isLt
    rw [BitVec.sle, word_toInt, decide_eq_true (by
      show (p.val : Int) ≤ (16383#32).toInt
      rw [show (16383#32).toInt = 16383 from by decide]
      omega)]
    rfl
  rw [h1, h2]
  rfl

end Cert.Rows

end
-- ==== Proof.KerReads.lean ====
/-
  The kernel's host operations read at an index: projections, the sort and the gathers along the sequence.
-/
module

public import proofs.«01_k».proof.Proof.KerLayer
public import proofs.«01_k».proof.Proof.Words
public import Idealize.ShloMosaic.Lib.ReduceAll

@[expose] public section

set_option maxRecDepth 16384

namespace Cert.KerReads

open Cert.KernelIdeal Cert.KernelIdeal.Gen Cert.KerLayer Cert.Rows Idealize.ShloMosaic

/-- A normalised row. -/
theorem rmsK_apply (x : FVec Ideal S1x16384x512 .f32) (n : FVec Ideal S512 .f32) (s : Fin 16384) (d : Fin 512) :
    rmsK x n (ix3 0 s d) = rms (fun e => x (ix3 0 s e)) (fun e => n (ix1 e)) d := by
  unfold rms width eps
  pointwise [rmsK]

/-- A projection of the normalised rows. -/
theorem projK_apply (x : FVec Ideal S1x16384x512 .f32) (n : FVec Ideal S512 .f32) (w : FVec Ideal S128x512 .f32) (h : Fin 128)
    (s : Fin 16384) : projK (rmsK x n) w (ix3 0 h s) =
      proj (fun s e => x (ix3 0 s e)) (fun e => n (ix1 e)) (fun h d => w (ix2 h d)) h s := by
  unfold proj
  simp only [← rmsK_apply]
  generalize rmsK x n = y
  pointwise [projK]

/-- A component of a value of the normalised rows. -/
theorem valK_apply (x : FVec Ideal S1x16384x512 .f32) (n : FVec Ideal S512 .f32) (w : FVec Ideal S512x512 .f32) (h : Fin 128)
    (s : Fin 16384) (c : Fin 4) : valK (rmsK x n) w (ix4 0 h s c) =
      value (fun s e => x (ix3 0 s e)) (fun e => n (ix1 e)) (fun d e => w (ix2 d e)) h c s := by
  unfold value
  simp only [← rmsK_apply]
  generalize rmsK x n = y
  pointwise [valK]
  rfl

/-- Taken keys, one row per slot. -/
theorem slotK_apply (k : FVec Ideal S1x128x32 .f32) (j : Fin 32) (h : Fin 128) : slotK k (ix2 j h) = k (ix3 0 h j) := by
  pointwise [slotK]

/-- Taken values, one matrix per slot. -/
theorem slotV_apply (v : FVec Ideal S1x128x32x4 .f32) (j : Fin 32) (c : Fin 4) (h : Fin 128) :
    slotV v (ix3 j c h) = v (ix4 0 h j c) := by
  pointwise [slotV]

/-- The queries, one row per position. -/
theorem rowsQ_apply (q : FVec Ideal S1x128x16384 .f32) (s : Fin 16384) (h : Fin 128) : rowsQ q (ix2 s h) = q (ix3 0 h s) := by
  pointwise [rowsQ]

/-- The rows without their leading axis. -/
theorem rowsX_apply (x : FVec Ideal S1x16384x512 .f32) (s : Fin 16384) (d : Fin 512) : rowsX x (ix2 s d) = x (ix3 0 s d) := by
  pointwise [rowsX]

/-- The rows with a leading axis. -/
theorem liftX_apply (x : FVec Ideal S16384x512 .f32) (s : Fin 16384) (d : Fin 512) : liftX x (ix3 0 s d) = x (ix2 s d) := by
  pointwise [liftX]

/-- The last positions. -/
theorem topI_apply (i : IVec S1x128x16384 32) (h : Fin 128) (k : Fin 32) : topI i (ix3 0 h k) = i (ix3 0 h (topSlot k)) := by
  pointwise [topI]
  rfl

/-- The first positions. -/
theorem botI_apply (i : IVec S1x128x16384 32) (h : Fin 128) (k : Fin 32) : botI i (ix3 0 h k) = i (ix3 0 h (botSlot k)) := by
  pointwise [botI]
  rfl

end Cert.KerReads

end
-- ==== Proof.KerTake.lean ====
/-
  The kernel's sort and its two gathers along the sequence, read at an index.
-/
module

public import proofs.«01_k».proof.Proof.KerReads
public import proofs.«01_k».proof.Proof.Words
public import Idealize.ShloMosaic.Lib.ReduceAll

@[expose] public section

set_option maxRecDepth 16384

namespace Cert.KerReads

open Cert.KernelIdeal Cert.KernelIdeal.Gen Cert.KerLayer Cert.Rows Idealize.ShloMosaic

/-- The gather of one key: the operand's entry of the same head at the start index, read signed and clamped. -/
theorem gatherK_apply (x : FVec Ideal S1x128x16384 .f32) (idx : IVec S128x32x1 32) (h : Fin 128) (j : Fin 32) :
    Host.gather gather_S1x128x16384_S128x32x1_S1x128x32_0_2_1_0_2_2_111 x idx (ix3 0 h j) =
      x (ix3 0 h ⟨min (idx (ix3 h j 0)).toInt.toNat (16384 - 1), by omega⟩) := by
  unfold Host.gather
  congr 1
  funext a
  refine Fin.ext ?_
  generalize hd : gather_S1x128x16384_S128x32x1_S1x128x32_0_2_1_0_2_2_111 = d
  show d.start (ix3 0 h j) idx a + d.batchCoord (ix3 0 h j) a + d.offCoord (ix3 0 h j) a = _
  subst hd
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.batchCoord_eq_zero _ _ _ (fun h => by simp [gather_S1x128x16384_S128x32x1_S1x128x32_0_2_1_0_2_2_111] at h)]
    unfold GatherDims.start
    rw [dif_neg (by simp [gather_S1x128x16384_S128x32x1_S1x128x32_0_2_1_0_2_2_111])]
    simp only [Nat.zero_add]
    unfold GatherDims.offCoord
    rw [dif_pos ((GatherDims.mem_sKept _ _).mpr (by simp [gather_S1x128x16384_S128x32x1_S1x128x32_0_2_1_0_2_2_111]))]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 3) ∈ gather_S1x128x16384_S128x32x1_S1x128x32_0_2_1_0_2_2_111.operandBatchingDims from List.mem_singleton.mpr rfl)]
    rfl
  · rw [GatherDims.batchCoord_eq_zero _ _ _ (fun h => by simp [gather_S1x128x16384_S128x32x1_S1x128x32_0_2_1_0_2_2_111] at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S1x128x16384_S128x32x1_S1x128x32_0_2_1_0_2_2_111.startIndexMap from List.mem_singleton.mpr rfl)]
    have hsi : gather_S1x128x16384_S128x32x1_S1x128x32_0_2_1_0_2_2_111.siIdx (ix3 0 h j)
        ⟨List.idxOf (2 : Fin 3) gather_S1x128x16384_S128x32x1_S1x128x32_0_2_1_0_2_2_111.startIndexMap,
        List.idxOf_lt_length_iff.2 (List.mem_singleton.mpr rfl)⟩ = ix3 h j 0 := by
      funext b; refine Fin.ext ?_
      match b with
      | ⟨0, _⟩ => rfl
      | ⟨1, _⟩ => rfl
      | ⟨2, _⟩ => rfl
    rw [hsi]
    rfl

/-- The gather of one component of a value. -/
theorem gatherV_apply (x : FVec Ideal S1x128x16384x4 .f32) (idx : IVec S128x32x1 32) (h : Fin 128) (j : Fin 32) (c : Fin 4) :
    Host.gather gather_S1x128x16384x4_S128x32x1_S1x128x32x4_03_2_1_0_2_2_1114 x idx (ix4 0 h j c) =
      x (ix4 0 h ⟨min (idx (ix3 h j 0)).toInt.toNat (16384 - 1), by omega⟩ c) := by
  unfold Host.gather
  congr 1
  funext a
  refine Fin.ext ?_
  generalize hd : gather_S1x128x16384x4_S128x32x1_S1x128x32x4_03_2_1_0_2_2_1114 = d
  show d.start (ix4 0 h j c) idx a + d.batchCoord (ix4 0 h j c) a + d.offCoord (ix4 0 h j c) a = _
  subst hd
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · rw [GatherDims.batchCoord_eq_zero _ _ _ (fun h => by simp [gather_S1x128x16384x4_S128x32x1_S1x128x32x4_03_2_1_0_2_2_1114] at h)]
    unfold GatherDims.start
    rw [dif_neg (by simp [gather_S1x128x16384x4_S128x32x1_S1x128x32x4_03_2_1_0_2_2_1114])]
    simp only [Nat.zero_add]
    unfold GatherDims.offCoord
    rw [dif_pos ((GatherDims.mem_sKept _ _).mpr (by simp [gather_S1x128x16384x4_S128x32x1_S1x128x32x4_03_2_1_0_2_2_1114]))]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (1 : Fin 4) ∈ gather_S1x128x16384x4_S128x32x1_S1x128x32x4_03_2_1_0_2_2_1114.operandBatchingDims from List.mem_singleton.mpr rfl)]
    rfl
  · rw [GatherDims.batchCoord_eq_zero _ _ _ (fun h => by simp [gather_S1x128x16384x4_S128x32x1_S1x128x32x4_03_2_1_0_2_2_1114] at h),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ gather_S1x128x16384x4_S128x32x1_S1x128x32x4_03_2_1_0_2_2_1114.startIndexMap from List.mem_singleton.mpr rfl)]
    have hsi : gather_S1x128x16384x4_S128x32x1_S1x128x32x4_03_2_1_0_2_2_1114.siIdx (ix4 0 h j c)
        ⟨List.idxOf (2 : Fin 4) gather_S1x128x16384x4_S128x32x1_S1x128x32x4_03_2_1_0_2_2_1114.startIndexMap,
        List.idxOf_lt_length_iff.2 (List.mem_singleton.mpr rfl)⟩ = ix3 h j 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp [gather_S1x128x16384x4_S128x32x1_S1x128x32x4_03_2_1_0_2_2_1114] at h)]
    unfold GatherDims.start
    rw [dif_neg (by simp [gather_S1x128x16384x4_S128x32x1_S1x128x32x4_03_2_1_0_2_2_1114])]
    simp only [Nat.zero_add]
    unfold GatherDims.offCoord
    rw [dif_pos ((GatherDims.mem_sKept _ _).mpr (by simp [gather_S1x128x16384x4_S128x32x1_S1x128x32x4_03_2_1_0_2_2_1114]))]
    rfl

/-- A choice of zero where a number is zero is the number. -/
theorem zero_or (x : EReal) : (if BitVec.ofBool (decide (x = 0)) = 1#1 then 0 else x) = x := by
  by_cases h : x = 0 <;> simp [h]

/-- The comparator of the sort: whether the left key is below the right one. -/
theorem comparator_apply (l r : EReal × BitVec 32) :
    comparator_f32_i32_d2 (F := Ideal) l r = BitVec.ofBool (decide (l.1 < r.1)) := by
  unfold comparator_f32_i32_d2
  simp [Scalar.select, pointwise]
  rw [zero_or, zero_or]
  rfl

/-- The order's words: slot `j` of head `h` holds the place of the `j`-th key in upward order. -/
theorem orderK_apply (keys : FVec Ideal S1x128x16384 .f32) (h : Fin 128) (j : Fin 16384) :
    orderK keys (ix3 0 h j) = BitVec.ofNat 32 (order (fun s => keys (ix3 0 h s)) j).val := by
  have hal : ∀ k : Fin 16384, (ix3 0 h j : S1x128x16384.Idx).along (2 : Fin 3) k = ix3 0 h k := by
    intro k; funext b
    match b with
    | ⟨0, _⟩ => rfl
    | ⟨1, _⟩ => rfl
    | ⟨2, _⟩ => rfl
  unfold orderK Host.sort2 order
  rw [dif_pos (show 2 < S1x128x16384.rank by decide)]
  simp only [comparator_apply]
  have hio : ∀ k : Fin 16384, iotaInDim S1x128x16384 32 2 (ix3 0 h k) = BitVec.ofNat 32 k.val := fun _ => rfl
  have hB : ∀ (B : Fin 16384 → Fin 16384 → Bool) (hB : B = fun k k' => decide (keys (ix3 0 h k) < keys (ix3 0 h k'))),
      iotaInDim S1x128x16384 32 2 ((ix3 0 h j : S1x128x16384.Idx).along (2 : Fin 3) (sortedFrom B j)) =
        BitVec.ofNat 32 (sortedFrom (fun k k' => decide (keys (ix3 0 h k) < keys (ix3 0 h k'))) j).val := by
    intro B hB
    subst hB
    exact (congrArg (iotaInDim S1x128x16384 32 2) (hal _)).trans (hio _)
  refine hB _ ?_
  funext k k'
  have e1 := hal k
  have e2 := hal k'
  show (BitVec.ofBool (decide (keys ((ix3 0 h j : S1x128x16384.Idx).along (2 : Fin 3) k) < keys ((ix3 0 h j : S1x128x16384.Idx).along (2 : Fin 3) k'))) == 1#1) = _
  rw [e1, e2]
  by_cases hlt : keys (ix3 0 h k) < keys (ix3 0 h k') <;> simp [hlt]

/-- The wrapped position, for the keys. -/
theorem wrapK_apply (idx : IVec S1x128x32 32) (h : Fin 128) (j : Fin 32) (p : Fin 16384) (hp : idx (ix3 0 h j) = word p) :
    wrapK idx (ix3 h j 0) = word p := by
  rw [← word_wrap p (IntOp.addi (word p) 16384#32), ← hp]
  pointwise [wrapK]

/-- The wrapped position, for the values. -/
theorem wrapV_apply (idx : IVec S1x128x32x1 32) (h : Fin 128) (j : Fin 32) (p : Fin 16384) (hp : idx (ix4 0 h j 0) = word p) :
    wrapV idx (ix3 h j 0) = word p := by
  rw [← word_wrap p (IntOp.addi (word p) 16384#32), ← hp]
  pointwise [wrapV]

/-- Where every word is a place in the sequence, all of them are inside. -/
theorem insideK_apply (i : IVec S128x32x1 32) (f : Fin 128 → Fin 32 → Fin 16384) (hf : ∀ h j, i (ix3 h j 0) = word (f h j))
    (h : Fin 128) (j : Fin 32) : insideK i (ix2 h j) = 1#1 := by
  refine Host.reduce_andi_one _ _ _ _ _ rfl ?_
  intro k
  have hk : k = ix3 (k 0) (k 1) 0 := by
    funext b
    match b with
    | ⟨0, _⟩ => rfl
    | ⟨1, _⟩ => rfl
    | ⟨2, _⟩ => exact Subsingleton.elim (α := Fin 1) _ _
  have hw : i k = word (f (k 0) (k 1)) := (congrArg i hk).trans (hf (k 0) (k 1))
  rw [← word_inside (f (k 0) (k 1)), ← hw]
  rfl

/-- The keys taken at places of the sequence. -/
theorem takeK_apply (keys : FVec Ideal S1x128x16384 .f32) (idx : IVec S1x128x32 32) (f : Fin 128 → Fin 32 → Fin 16384)
    (hf : ∀ h j, idx (ix3 0 h j) = word (f h j)) (h : Fin 128) (j : Fin 32) :
    takeK keys idx (ix3 0 h j) = keys (ix3 0 h (f h j)) := by
  have hw : ∀ h j, wrapK idx (ix3 h j 0) = word (f h j) := fun h j => wrapK_apply _ _ _ _ (hf h j)
  have hi := insideK_apply _ _ hw h j
  unfold takeK
  generalize wrapK idx = w at hw hi
  have hb : broadcastInDim S1x128x32 ![1, 2] bcast_S128x32_S1x128x32_1_2 (insideK w) (ix3 0 h j) = insideK w (ix2 h j) := by
    generalize insideK w = z
    pointwise
  show Scalar.select (broadcastInDim S1x128x32 ![1, 2] bcast_S128x32_S1x128x32_1_2 (insideK w) (ix3 0 h j)) _ _ = _
  rw [hb, hi, gatherK_apply]
  show keys _ = keys _
  refine congrArg (fun p : Fin 16384 => keys (ix3 0 h p)) (Fin.ext ?_)
  show min (w (ix3 h j 0)).toInt.toNat (16384 - 1) = _
  rw [hw]
  exact word_clamp _

/-- The values taken at places of the sequence. -/
theorem takeV_apply (vals : FVec Ideal S1x128x16384x4 .f32) (idx : IVec S1x128x32 32) (f : Fin 128 → Fin 32 → Fin 16384)
    (hf : ∀ h j, idx (ix3 0 h j) = word (f h j)) (h : Fin 128) (j : Fin 32) (c : Fin 4) :
    takeV vals (unitI idx) (ix4 0 h j c) = vals (ix4 0 h (f h j) c) := by
  have hw : ∀ h j, wrapV (unitI idx) (ix3 h j 0) = word (f h j) := by
    intro h j
    refine wrapV_apply _ _ _ _ (Eq.trans ?_ (hf h j))
    pointwise [unitI]
  have hi := insideK_apply _ _ hw h j
  unfold takeV
  generalize wrapV (unitI idx) = w at hw hi
  have hb : broadcastInDim S1x128x32x4 ![1, 2] bcast_S128x32_S1x128x32x4_1_2 (insideK w) (ix4 0 h j c) = insideK w (ix2 h j) := by
    generalize insideK w = z
    pointwise
  show Scalar.select (broadcastInDim S1x128x32x4 ![1, 2] bcast_S128x32_S1x128x32x4_1_2 (insideK w) (ix4 0 h j c)) _ _ = _
  rw [hb, hi, gatherV_apply]
  show vals _ = vals _
  refine congrArg (fun p : Fin 16384 => vals (ix4 0 h p c)) (Fin.ext ?_)
  show min (w (ix3 h j 0)).toInt.toNat (16384 - 1) = _
  rw [hw]
  exact word_clamp _

end Cert.KerReads

end
-- ==== Proof.KerRows.lean ====
/-
  One layer of the kernel, host operations and region together, at an index: the layer of the whole sequence.
-/
module

public import proofs.«01_k».proof.Proof.Region0
public import proofs.«01_k».proof.Proof.KerTake

@[expose] public section

set_option maxRecDepth 16384

noncomputable section

namespace Cert.KerRows

open Cert.KernelIdeal Cert.KernelIdeal.Gen Cert.KerLayer Cert.KerReads Cert.Rows Idealize.ShloMosaic

/-- The rows after a layer. -/
def layerK (x : FVec Ideal S1x16384x512 .f32) (n1 : FVec Ideal S512 .f32) (wq wk : FVec Ideal S128x512 .f32)
    (wv wo : FVec Ideal S512x512 .f32) (n2 : FVec Ideal S512 .f32) (wg wu : FVec Ideal S1365x512 .f32)
    (wd : FVec Ideal S512x1365 .f32) : FVec Ideal S16384x512 .f32 :=
  Cert.Region0.G (rowsX x) (rowsQ (projK (rmsK x n1) wq))
    (slotK (takeK (projK (rmsK x n1) wk) (topI (orderK (projK (rmsK x n1) wk)))))
    (slotK (takeK (projK (rmsK x n1) wk) (botI (orderK (projK (rmsK x n1) wk)))))
    (slotV (takeV (valK (rmsK x n1) wv) (unitI (topI (orderK (projK (rmsK x n1) wk))))))
    (slotV (takeV (valK (rmsK x n1) wv) (unitI (botI (orderK (projK (rmsK x n1) wk))))))
    (transpose S512x512 [1, 0] wo transposes_S512x512_S512x512_1_0) n2
    (transpose S512x1365 [1, 0] wg transposes_S1365x512_S512x1365_1_0)
    (transpose S512x1365 [1, 0] wu transposes_S1365x512_S512x1365_1_0)
    (transpose S1365x512 [1, 0] wd transposes_S512x1365_S1365x512_1_0)

/-- Output weights turned. -/
theorem turnO (w : FVec Ideal S512x512 .f32) (e d : Fin 512) :
    transpose S512x512 [1, 0] w transposes_S512x512_S512x512_1_0 (ix2 e d) = w (ix2 d e) := by
  pointwise

/-- Gate or up weights turned. -/
theorem turnG (w : FVec Ideal S1365x512 .f32) (e : Fin 512) (h : Fin 1365) :
    transpose S512x1365 [1, 0] w transposes_S1365x512_S512x1365_1_0 (ix2 e h) = w (ix2 h e) := by
  pointwise

/-- Down weights turned. -/
theorem turnD (w : FVec Ideal S512x1365 .f32) (h : Fin 1365) (d : Fin 512) :
    transpose S1365x512 [1, 0] w transposes_S512x1365_S1365x512_1_0 (ix2 h d) = w (ix2 d h) := by
  pointwise

/-- Logit weights turned. -/
theorem turnL (w : FVec Ideal S256x512 .f32) (e : Fin 512) (o : Fin 256) :
    transpose S512x256 [1, 0] w transposes_S256x512_S512x256_1_0 (ix2 e o) = w (ix2 o e) := by
  pointwise

/-- The key in a slot of the keys' upward order. -/
theorem key_apply (x : FVec Ideal S1x16384x512 .f32) (n : FVec Ideal S512 .f32) (w : FVec Ideal S128x512 .f32)
    (idx : IVec S1x128x32 32) (slot : Fin 32 → Fin 16384)
    (hs : ∀ h k, idx (ix3 0 h k) = orderK (projK (rmsK x n) w) (ix3 0 h (slot k))) (k : Fin 32) (h : Fin 128) :
    slotK (takeK (projK (rmsK x n) w) idx) (ix2 k h) =
      keyAt (fun s e => x (ix3 0 s e)) (fun e => n (ix1 e)) (fun h d => w (ix2 h d)) h (slot k) := by
  rw [slotK_apply, takeK_apply _ _ (fun h k => order (fun s => projK (rmsK x n) w (ix3 0 h s)) (slot k))
    (fun h k => (hs h k).trans (orderK_apply _ _ _))]
  simp only [projK_apply]
  rfl

/-- The value in a slot of the keys' upward order. -/
theorem val_apply (x : FVec Ideal S1x16384x512 .f32) (n : FVec Ideal S512 .f32) (w : FVec Ideal S128x512 .f32)
    (wv : FVec Ideal S512x512 .f32) (idx : IVec S1x128x32 32) (slot : Fin 32 → Fin 16384)
    (hs : ∀ h k, idx (ix3 0 h k) = orderK (projK (rmsK x n) w) (ix3 0 h (slot k))) (k : Fin 32) (c : Fin 4) (h : Fin 128) :
    slotV (takeV (valK (rmsK x n) wv) (unitI idx)) (ix3 k c h) =
      valueAt (fun s e => x (ix3 0 s e)) (fun e => n (ix1 e)) (fun h d => w (ix2 h d)) (fun d e => wv (ix2 d e)) h c (slot k) := by
  rw [slotV_apply, takeV_apply _ _ (fun h k => order (fun s => projK (rmsK x n) w (ix3 0 h s)) (slot k))
    (fun h k => (hs h k).trans (orderK_apply _ _ _))]
  simp only [projK_apply, valK_apply]
  rfl

/-- Layers of equal parts are equal. -/
theorem layer_congr {x x' : Fin 512 → EReal}
    {q q' : Fin 128 → EReal}
    {tk tk' : Fin 32 → Fin 128 → EReal}
    {bk bk' : Fin 32 → Fin 128 → EReal}
    {tv tv' : Fin 32 → Fin 4 → Fin 128 → EReal}
    {bv bv' : Fin 32 → Fin 4 → Fin 128 → EReal}
    {wo wo' : Fin 512 → Fin 512 → EReal}
    {n2 n2' : Fin 512 → EReal}
    {wg wg' : Fin 512 → Fin 1365 → EReal}
    {wu wu' : Fin 512 → Fin 1365 → EReal}
    {wd wd' : Fin 1365 → Fin 512 → EReal}
    (hx : ∀ e, x e = x' e)
    (hq : ∀ h, q h = q' h)
    (htk : ∀ k h, tk k h = tk' k h)
    (hbk : ∀ k h, bk k h = bk' k h)
    (htv : ∀ k c h, tv k c h = tv' k c h)
    (hbv : ∀ k c h, bv k c h = bv' k c h)
    (hwo : ∀ e d, wo e d = wo' e d)
    (hn2 : ∀ e, n2 e = n2' e)
    (hwg : ∀ e h, wg e h = wg' e h)
    (hwu : ∀ e h, wu e h = wu' e h)
    (hwd : ∀ h d, wd h d = wd' h d) (d : Fin 512) :
    layer x q tk bk tv bv wo n2 wg wu wd d = layer x' q' tk' bk' tv' bv' wo' n2' wg' wu' wd' d := by
  obtain rfl : x = x' := by funext e; exact hx e
  obtain rfl : q = q' := by funext h; exact hq h
  obtain rfl : tk = tk' := by funext k h; exact htk k h
  obtain rfl : bk = bk' := by funext k h; exact hbk k h
  obtain rfl : tv = tv' := by funext k c h; exact htv k c h
  obtain rfl : bv = bv' := by funext k c h; exact hbv k c h
  obtain rfl : wo = wo' := by funext e d; exact hwo e d
  obtain rfl : n2 = n2' := by funext e; exact hn2 e
  obtain rfl : wg = wg' := by funext e h; exact hwg e h
  obtain rfl : wu = wu' := by funext e h; exact hwu e h
  obtain rfl : wd = wd' := by funext h d; exact hwd h d
  rfl

/-- The rows after a layer are the layer of the whole sequence. -/
theorem layerK_apply (x : FVec Ideal S1x16384x512 .f32) (n1 : FVec Ideal S512 .f32) (wq wk : FVec Ideal S128x512 .f32)
    (wv wo : FVec Ideal S512x512 .f32) (n2 : FVec Ideal S512 .f32) (wg wu : FVec Ideal S1365x512 .f32)
    (wd : FVec Ideal S512x1365 .f32) (s : Fin 16384) (d : Fin 512) :
    layerK x n1 wq wk wv wo n2 wg wu wd (ix2 s d) =
      layerRows (fun s e => x (ix3 0 s e)) (fun e => n1 (ix1 e)) (fun h d => wq (ix2 h d)) (fun h d => wk (ix2 h d))
        (fun d e => wv (ix2 d e)) (fun d e => wo (ix2 d e)) (fun e => n2 (ix1 e)) (fun h e => wg (ix2 h e))
        (fun h e => wu (ix2 h e)) (fun d h => wd (ix2 d h)) s d := by
  unfold layerK Cert.Region0.G layerRows
  have kt := key_apply x n1 wk _ topSlot (topI_apply (orderK (projK (rmsK x n1) wk)))
  have kb := key_apply x n1 wk _ botSlot (botI_apply (orderK (projK (rmsK x n1) wk)))
  have vt := val_apply x n1 wk wv _ topSlot (topI_apply (orderK (projK (rmsK x n1) wk)))
  have vb := val_apply x n1 wk wv _ botSlot (botI_apply (orderK (projK (rmsK x n1) wk)))
  exact layer_congr (fun e => rowsX_apply x s e) (fun h => (rowsQ_apply _ s h).trans (projK_apply x n1 wq h s)) kt kb vt vb
    (turnO wo) (fun _ => rfl) (turnG wg) (turnG wu) (turnD wd) d

end Cert.KerRows

end
-- ==== Proof.Region1.lean ====
/-
  What the second layer region leaves in its result array, from the arrays it finds.
-/
module

public import proofs.«01_k».proof.Proof.Region0
public import Idealize.ShloMosaic.Lib.Pipeline.ValueKit

@[expose] public section

set_option maxRecDepth 16384

noncomputable section

namespace Cert.Region1

open Cert.Region0 (G)
open Cert.KernelIdeal Cert.KernelIdeal.Gen Cert.Rows Cert.Body Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the row windows and of the whole-array windows. -/
theorem idx : ∀ t : Fin cfg1.N, win1_0.index t = ![t.val, 0] ∧ win1_1.index t = ![t.val, 0] ∧ win1_2.index t = ![0, 0] ∧
    win1_3.index t = ![0, 0] ∧ win1_4.index t = ![0, 0, 0] ∧ win1_5.index t = ![0, 0, 0] ∧ win1_6.index t = ![0, 0] ∧
    win1_7.index t = ![0] ∧ win1_8.index t = ![0, 0] ∧ win1_9.index t = ![0, 0] ∧ win1_10.index t = ![0, 0] ∧
    win1_11.index t = ![t.val, 0] := (by decide +kernel : ∀ t : Fin grid1.N, _)

/-- Window 2's block is its whole array. -/
theorem blk2 (c : Dev nD) (t : Fin cfg1.N) : iblk1 V c 2 t = (V c main_v98 : FVec Ideal S32x128 .f32) := by
  have e := (idx t).2.2.1
  funext j
  show V c main_v98 (((cfg1.win 2).blk t).view.emb j) = V c main_v98 j
  refine congrArg (V c main_v98) (funext fun a => Fin.ext ?_)
  match a with
  | ⟨0, _⟩ => show win1_2.index t (0 : Fin 2) * 32 + 1 * (j 0).val = (j 0).val; rw [e]; simp
  | ⟨1, _⟩ => show win1_2.index t (1 : Fin 2) * 128 + 1 * (j 1).val = (j 1).val; rw [e]; simp

/-- Window 3's block is its whole array. -/
theorem blk3 (c : Dev nD) (t : Fin cfg1.N) : iblk1 V c 3 t = (V c main_v100 : FVec Ideal S32x128 .f32) := by
  have e := (idx t).2.2.2.1
  funext j
  show V c main_v100 (((cfg1.win 3).blk t).view.emb j) = V c main_v100 j
  refine congrArg (V c main_v100) (funext fun a => Fin.ext ?_)
  match a with
  | ⟨0, _⟩ => show win1_3.index t (0 : Fin 2) * 32 + 1 * (j 0).val = (j 0).val; rw [e]; simp
  | ⟨1, _⟩ => show win1_3.index t (1 : Fin 2) * 128 + 1 * (j 1).val = (j 1).val; rw [e]; simp

/-- Window 4's block is its whole array. -/
theorem blk4 (c : Dev nD) (t : Fin cfg1.N) : iblk1 V c 4 t = (V c main_v102 : FVec Ideal S32x4x128 .f32) := by
  have e := (idx t).2.2.2.2.1
  funext j
  show V c main_v102 (((cfg1.win 4).blk t).view.emb j) = V c main_v102 j
  refine congrArg (V c main_v102) (funext fun a => Fin.ext ?_)
  match a with
  | ⟨0, _⟩ => show win1_4.index t (0 : Fin 3) * 32 + 1 * (j 0).val = (j 0).val; rw [e]; simp
  | ⟨1, _⟩ => show win1_4.index t (1 : Fin 3) * 4 + 1 * (j 1).val = (j 1).val; rw [e]; simp
  | ⟨2, _⟩ => show win1_4.index t (2 : Fin 3) * 128 + 1 * (j 2).val = (j 2).val; rw [e]; simp

/-- Window 5's block is its whole array. -/
theorem blk5 (c : Dev nD) (t : Fin cfg1.N) : iblk1 V c 5 t = (V c main_v104 : FVec Ideal S32x4x128 .f32) := by
  have e := (idx t).2.2.2.2.2.1
  funext j
  show V c main_v104 (((cfg1.win 5).blk t).view.emb j) = V c main_v104 j
  refine congrArg (V c main_v104) (funext fun a => Fin.ext ?_)
  match a with
  | ⟨0, _⟩ => show win1_5.index t (0 : Fin 3) * 32 + 1 * (j 0).val = (j 0).val; rw [e]; simp
  | ⟨1, _⟩ => show win1_5.index t (1 : Fin 3) * 4 + 1 * (j 1).val = (j 1).val; rw [e]; simp
  | ⟨2, _⟩ => show win1_5.index t (2 : Fin 3) * 128 + 1 * (j 2).val = (j 2).val; rw [e]; simp

/-- Window 6's block is its whole array. -/
theorem blk6 (c : Dev nD) (t : Fin cfg1.N) : iblk1 V c 6 t = (V c main_v63 : FVec Ideal S512x512 .f32) := by
  have e := (idx t).2.2.2.2.2.2.1
  funext j
  show V c main_v63 (((cfg1.win 6).blk t).view.emb j) = V c main_v63 j
  refine congrArg (V c main_v63) (funext fun a => Fin.ext ?_)
  match a with
  | ⟨0, _⟩ => show win1_6.index t (0 : Fin 2) * 512 + 1 * (j 0).val = (j 0).val; rw [e]; simp
  | ⟨1, _⟩ => show win1_6.index t (1 : Fin 2) * 512 + 1 * (j 1).val = (j 1).val; rw [e]; simp

/-- Window 7's block is its whole array. -/
theorem blk7 (c : Dev nD) (t : Fin cfg1.N) : iblk1 V c 7 t = (V c main_arg19 : FVec Ideal S512 .f32) := by
  have e := (idx t).2.2.2.2.2.2.2.1
  funext j
  show V c main_arg19 (((cfg1.win 7).blk t).view.emb j) = V c main_arg19 j
  refine congrArg (V c main_arg19) (funext fun a => Fin.ext ?_)
  match a with
  | ⟨0, _⟩ => show win1_7.index t (0 : Fin 1) * 512 + 1 * (j 0).val = (j 0).val; rw [e]; simp

/-- Window 8's block is its whole array. -/
theorem blk8 (c : Dev nD) (t : Fin cfg1.N) : iblk1 V c 8 t = (V c main_v64 : FVec Ideal S512x1365 .f32) := by
  have e := (idx t).2.2.2.2.2.2.2.2.1
  funext j
  show V c main_v64 (((cfg1.win 8).blk t).view.emb j) = V c main_v64 j
  refine congrArg (V c main_v64) (funext fun a => Fin.ext ?_)
  match a with
  | ⟨0, _⟩ => show win1_8.index t (0 : Fin 2) * 512 + 1 * (j 0).val = (j 0).val; rw [e]; simp
  | ⟨1, _⟩ => show win1_8.index t (1 : Fin 2) * 1365 + 1 * (j 1).val = (j 1).val; rw [e]; simp

/-- Window 9's block is its whole array. -/
theorem blk9 (c : Dev nD) (t : Fin cfg1.N) : iblk1 V c 9 t = (V c main_v65 : FVec Ideal S512x1365 .f32) := by
  have e := (idx t).2.2.2.2.2.2.2.2.2.1
  funext j
  show V c main_v65 (((cfg1.win 9).blk t).view.emb j) = V c main_v65 j
  refine congrArg (V c main_v65) (funext fun a => Fin.ext ?_)
  match a with
  | ⟨0, _⟩ => show win1_9.index t (0 : Fin 2) * 512 + 1 * (j 0).val = (j 0).val; rw [e]; simp
  | ⟨1, _⟩ => show win1_9.index t (1 : Fin 2) * 1365 + 1 * (j 1).val = (j 1).val; rw [e]; simp

/-- Window 10's block is its whole array. -/
theorem blk10 (c : Dev nD) (t : Fin cfg1.N) : iblk1 V c 10 t = (V c main_v66 : FVec Ideal S1365x512 .f32) := by
  have e := (idx t).2.2.2.2.2.2.2.2.2.2.1
  funext j
  show V c main_v66 (((cfg1.win 10).blk t).view.emb j) = V c main_v66 j
  refine congrArg (V c main_v66) (funext fun a => Fin.ext ?_)
  match a with
  | ⟨0, _⟩ => show win1_10.index t (0 : Fin 2) * 1365 + 1 * (j 0).val = (j 0).val; rw [e]; simp
  | ⟨1, _⟩ => show win1_10.index t (1 : Fin 2) * 512 + 1 * (j 1).val = (j 1).val; rw [e]; simp

/-- A row's place in the array, from its block and its place in the block. -/
def place (t : Fin cfg1.N) (s : Fin 128) : Fin 16384 := ⟨t.val * 128 + s.val, by
  have h : t.val < 128 := t.isLt
  omega⟩

/-- Window 0's block is 128 rows of its array. -/
theorem blk0 (c : Dev nD) (t : Fin cfg1.N) (s : Fin 128) (e : Fin 512) :
    (iblk1 V c 0 t : FVec Ideal S128x512 .f32) (ix2 s e) = (V c main_v105 : FVec Ideal S16384x512 .f32) (ix2 (place t s) e) := by
  have h := (idx t).1
  show V c main_v105 (((cfg1.win 0).blk t).view.emb (ix2 s e)) = _
  refine congrArg (V c main_v105) (funext fun a => Fin.ext ?_)
  match a with
  | ⟨0, _⟩ => show win1_0.index t (0 : Fin 2) * 128 + 1 * s.val = t.val * 128 + s.val; rw [h]; simp
  | ⟨1, _⟩ => show win1_0.index t (1 : Fin 2) * 512 + 1 * e.val = e.val; rw [h]; simp

/-- Window 1's block is 128 rows of its array. -/
theorem blk1 (c : Dev nD) (t : Fin cfg1.N) (s : Fin 128) (e : Fin 128) :
    (iblk1 V c 1 t : FVec Ideal S128x128 .f32) (ix2 s e) = (V c main_v107 : FVec Ideal S16384x128 .f32) (ix2 (place t s) e) := by
  have h := (idx t).2.1
  show V c main_v107 (((cfg1.win 1).blk t).view.emb (ix2 s e)) = _
  refine congrArg (V c main_v107) (funext fun a => Fin.ext ?_)
  match a with
  | ⟨0, _⟩ => show win1_1.index t (0 : Fin 2) * 128 + 1 * s.val = t.val * 128 + s.val; rw [h]; simp
  | ⟨1, _⟩ => show win1_1.index t (1 : Fin 2) * 128 + 1 * e.val = e.val; rw [h]; simp

/-- The result's block is 128 rows of its array. -/
theorem emb11 (t : Fin cfg1.N) (s : Fin 128) (e : Fin 512) :
    ((cfg1.win 11).blk t).view.emb (ix2 s e) = (ix2 (place t s) e : S16384x512.Idx) := by
  have h := (idx t).2.2.2.2.2.2.2.2.2.2.2
  refine funext fun a => Fin.ext ?_
  match a with
  | ⟨0, _⟩ => show win1_11.index t (0 : Fin 2) * 128 + 1 * s.val = t.val * 128 + s.val; rw [h]; simp
  | ⟨1, _⟩ => show win1_11.index t (1 : Fin 2) * 512 + 1 * e.val = e.val; rw [h]; simp

/-- The result array is the layer of every row of the arrays found. -/
theorem final (c : Dev nD) : (dat1 V c).arrAt 11 cfg1.N =
    G (V c main_v105) (V c main_v107) (V c main_v98) (V c main_v100) (V c main_v102) (V c main_v104) (V c main_v63) (V c main_arg19)
      (V c main_v64) (V c main_v65) (V c main_v66) := by
  refine (dat1 V c).arrAt_eq_of_covers 11 _ (by decide +kernel) fun t hf y => ?_
  obtain ⟨s, d, rfl⟩ : ∃ (s : Fin 128) (d : Fin 512), y = (ix2 s d : S128x512.Idx) := ⟨y 0, y 1, by
    funext a
    match a with
    | ⟨0, _⟩ => rfl
    | ⟨1, _⟩ => rfl⟩
  have hk : (dat1 V c).after 11 t = out0_11 (F := Ideal) (iblk1 V c 0 t) (iblk1 V c 1 t) (V c main_v98) (V c main_v100) (V c main_v102)
      (V c main_v104) (V c main_v63) (V c main_arg19) (V c main_v64) (V c main_v65) (V c main_v66) := by
    rw [after1_11, out1_eq, blk2, blk3, blk4, blk5, blk6, blk7, blk8, blk9, blk10]
  refine (congrFun hk (ix2 s d)).trans ?_
  refine Eq.trans ?_ (congrArg (G (V c main_v105) (V c main_v107) (V c main_v98) (V c main_v100) (V c main_v102) (V c main_v104)
    (V c main_v63) (V c main_arg19) (V c main_v64) (V c main_v65) (V c main_v66)) (emb11 t s d)).symm
  refine (out0_apply _ _ _ _ _ _ _ _ _ _ _ s d).trans ?_
  simp only [blk0, blk1]
  rfl

end Cert.Region1

end
-- ==== Proof.Region2.lean ====
/-
  What the last region leaves in its result array, from the arrays it finds.
-/
module

public import proofs.«01_k».proof.Proof.BodyLayer
public import Idealize.ShloMosaic.Lib.Pipeline.ValueKit

@[expose] public section

set_option maxRecDepth 16384

noncomputable section

namespace Cert.Region2

open Cert.KernelIdeal Cert.KernelIdeal.Gen Cert.Rows Cert.Body Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The block indices of the row windows and of the whole-array windows. -/
theorem idx : ∀ t : Fin cfg2.N, win2_0.index t = ![t.val, 0] ∧ win2_1.index t = ![0] ∧ win2_2.index t = ![0, 0] ∧
    win2_3.index t = ![t.val, 0] := (by decide +kernel : ∀ t : Fin grid2.N, _)

/-- The logits of every row. -/
def G (x : FVec Ideal S16384x512 .f32) (n : FVec Ideal S512 .f32) (w : FVec Ideal S512x256 .f32) : FVec Ideal S16384x256 .f32 :=
  fun i => Cert.Rows.final (fun e => x (ix2 (i 0) e)) (fun e => n (ix1 e)) (fun e o => w (ix2 e o)) (i 1)

/-- Window 1's block is its whole array. -/
theorem blk1 (c : Dev nD) (t : Fin cfg2.N) : iblk2 V c 1 t = (V c main_arg23 : FVec Ideal S512 .f32) := by
  have e := (idx t).2.1
  funext j
  show V c main_arg23 (((cfg2.win 1).blk t).view.emb j) = V c main_arg23 j
  refine congrArg (V c main_arg23) (funext fun a => Fin.ext ?_)
  match a with
  | ⟨0, _⟩ => show win2_1.index t (0 : Fin 1) * 512 + 1 * (j 0).val = (j 0).val; rw [e]; simp

/-- Window 2's block is its whole array. -/
theorem blk2 (c : Dev nD) (t : Fin cfg2.N) : iblk2 V c 2 t = (V c main_v111 : FVec Ideal S512x256 .f32) := by
  have e := (idx t).2.2.1
  funext j
  show V c main_v111 (((cfg2.win 2).blk t).view.emb j) = V c main_v111 j
  refine congrArg (V c main_v111) (funext fun a => Fin.ext ?_)
  match a with
  | ⟨0, _⟩ => show win2_2.index t (0 : Fin 2) * 512 + 1 * (j 0).val = (j 0).val; rw [e]; simp
  | ⟨1, _⟩ => show win2_2.index t (1 : Fin 2) * 256 + 1 * (j 1).val = (j 1).val; rw [e]; simp

/-- A row's place in the array, from its block and its place in the block. -/
def place (t : Fin cfg2.N) (s : Fin 128) : Fin 16384 := ⟨t.val * 128 + s.val, by
  have h : t.val < 128 := t.isLt
  omega⟩

/-- Window 0's block is 128 rows of its array. -/
theorem blk0 (c : Dev nD) (t : Fin cfg2.N) (s : Fin 128) (e : Fin 512) :
    (iblk2 V c 0 t : FVec Ideal S128x512 .f32) (ix2 s e) = (V c main_v110 : FVec Ideal S16384x512 .f32) (ix2 (place t s) e) := by
  have h := (idx t).1
  show V c main_v110 (((cfg2.win 0).blk t).view.emb (ix2 s e)) = _
  refine congrArg (V c main_v110) (funext fun a => Fin.ext ?_)
  match a with
  | ⟨0, _⟩ => show win2_0.index t (0 : Fin 2) * 128 + 1 * s.val = t.val * 128 + s.val; rw [h]; simp
  | ⟨1, _⟩ => show win2_0.index t (1 : Fin 2) * 512 + 1 * e.val = e.val; rw [h]; simp

/-- The result's block is 128 rows of its array. -/
theorem emb3 (t : Fin cfg2.N) (s : Fin 128) (e : Fin 256) :
    ((cfg2.win 3).blk t).view.emb (ix2 s e) = (ix2 (place t s) e : S16384x256.Idx) := by
  have h := (idx t).2.2.2
  refine funext fun a => Fin.ext ?_
  match a with
  | ⟨0, _⟩ => show win2_3.index t (0 : Fin 2) * 128 + 1 * s.val = t.val * 128 + s.val; rw [h]; simp
  | ⟨1, _⟩ => show win2_3.index t (1 : Fin 2) * 256 + 1 * e.val = e.val; rw [h]; simp

/-- The result array holds the logits of the arrays the region finds. -/
theorem final (c : Dev nD) : (dat2 V c).arrAt 3 cfg2.N = G (V c main_v110) (V c main_arg23) (V c main_v111) := by
  refine (dat2 V c).arrAt_eq_of_covers 3 _ (by decide +kernel) fun t hf y => ?_
  obtain ⟨s, o, rfl⟩ : ∃ (s : Fin 128) (o : Fin 256), y = (ix2 s o : S128x256.Idx) := ⟨y 0, y 1, by
    funext a
    match a with
    | ⟨0, _⟩ => rfl
    | ⟨1, _⟩ => rfl⟩
  have hk : (dat2 V c).after 3 t = out2_3 (F := Ideal) (iblk2 V c 0 t) (V c main_arg23) (V c main_v111) := by
    rw [after2_3, blk1, blk2]
  refine (congrFun hk (ix2 s o)).trans ?_
  refine Eq.trans ?_ (congrArg (G (V c main_v110) (V c main_arg23) (V c main_v111)) (emb3 t s o)).symm
  refine (out2_apply _ _ _ s o).trans ?_
  simp only [blk0]
  rfl
end Cert.Region2

end
-- ==== Proof.KerEntry.lean ====
/-
  What the two layer regions and the last region of the kernel find in their arrays, and what they leave, in terms of
  the arguments.
-/
module

public import proofs.«01_k».proof.Proof.KerHost
public import proofs.«01_k».proof.Proof.KerRows
public import proofs.«01_k».proof.Proof.Region1
public import proofs.«01_k».proof.Proof.Region2

@[expose] public section

set_option maxRecDepth 16384

noncomputable section

namespace Cert.KerEntry

open Cert.KernelIdeal Cert.KernelIdeal.Gen Cert.KerLayer Cert.KerRows Idealize.ShloMosaic Idealize.ShloMosaic.TcCoe Idealize.SL.Sem

variable (m : (ℓ : Loc nD τ sig) → Buf (Elt Ideal) ℓ) (ρ : Dev nD → PrngReg)

/-- The contents of an argument. -/
abbrev arg (c : Dev nD) (r : Ref sig .tc) : Buf (Elt Ideal) ((c : Thread nD τ).loc r) := m ((c : Thread nD τ).loc r)

/-- The embedded rows. -/
def rows0 (c : Dev nD) : FVec Ideal S1x16384x512 .f32 :=
  embedK (arg m c main_arg0) (arg m c main_arg2) (arg m c main_arg3) (arg m c main_arg4)

/-- The rows after the first layer. -/
def rows1 (c : Dev nD) : FVec Ideal S16384x512 .f32 :=
  layerK (rows0 m c) (arg m c main_arg5) (arg m c main_arg6) (arg m c main_arg7) (arg m c main_arg8) (arg m c main_arg9) (arg m c main_arg10) (arg m c main_arg11) (arg m c main_arg12) (arg m c main_arg13)

/-- The rows after the second layer. -/
def rows2 (c : Dev nD) : FVec Ideal S16384x512 .f32 :=
  layerK (liftX (rows1 m c)) (arg m c main_arg14) (arg m c main_arg15) (arg m c main_arg16) (arg m c main_arg17) (arg m c main_arg18) (arg m c main_arg19) (arg m c main_arg20) (arg m c main_arg21) (arg m c main_arg22)

/-- The logits. -/
def logits (c : Dev nD) : FVec Ideal S16384x256 .f32 :=
  Cert.Region2.G (rowsX (liftX (rows2 m c))) (arg m c main_arg23)
    (transpose S512x256 [1, 0] (arg m c main_arg24) transposes_S256x512_S512x256_1_0)

/-- The embedded rows. -/
theorem v15_eq (c : Dev nD) : W1 m ρ c (Proc.devRef .tc main_v15) = rows0 m c := by
  refine (KerHost.v15 (W0 m ρ c)).trans ?_
  rw [W0_args m ρ c main_arg0 (by decide), W0_args m ρ c main_arg2 (by decide), W0_args m ρ c main_arg3 (by decide), W0_args m ρ c main_arg4 (by decide)]
  rfl

/-- The first layer's output weights, turned. -/
theorem v16_eq (c : Dev nD) : W1 m ρ c (Proc.devRef .tc main_v16) = transpose S512x512 [1, 0] (arg m c main_arg9) transposes_S512x512_S512x512_1_0 := by
  refine (KerHost.v16 (W0 m ρ c)).trans ?_
  rw [W0_args m ρ c main_arg9 (by decide)]

/-- The first layer's gate weights, turned. -/
theorem v17_eq (c : Dev nD) : W1 m ρ c (Proc.devRef .tc main_v17) = transpose S512x1365 [1, 0] (arg m c main_arg11) transposes_S1365x512_S512x1365_1_0 := by
  refine (KerHost.v17 (W0 m ρ c)).trans ?_
  rw [W0_args m ρ c main_arg11 (by decide)]

/-- The first layer's up weights, turned. -/
theorem v18_eq (c : Dev nD) : W1 m ρ c (Proc.devRef .tc main_v18) = transpose S512x1365 [1, 0] (arg m c main_arg12) transposes_S1365x512_S512x1365_1_0 := by
  refine (KerHost.v18 (W0 m ρ c)).trans ?_
  rw [W0_args m ρ c main_arg12 (by decide)]

/-- The first layer's down weights, turned. -/
theorem v19_eq (c : Dev nD) : W1 m ρ c (Proc.devRef .tc main_v19) = transpose S1365x512 [1, 0] (arg m c main_arg13) transposes_S512x1365_S1365x512_1_0 := by
  refine (KerHost.v19 (W0 m ρ c)).trans ?_
  rw [W0_args m ρ c main_arg13 (by decide)]

/-- The first layer's queries. -/
theorem v34_eq (c : Dev nD) : W1 m ρ c (Proc.devRef .tc main_v34) = projK (rmsK (rows0 m c) (arg m c main_arg5)) (arg m c main_arg6) := by
  refine (KerHost.v34 (W0 m ρ c)).trans ?_
  rw [W0_args m ρ c main_arg0 (by decide), W0_args m ρ c main_arg2 (by decide), W0_args m ρ c main_arg3 (by decide), W0_args m ρ c main_arg4 (by decide), W0_args m ρ c main_arg5 (by decide), W0_args m ρ c main_arg6 (by decide)]
  rfl

/-- The first layer's keys. -/
theorem v36_eq (c : Dev nD) : W1 m ρ c (Proc.devRef .tc main_v36) = projK (rmsK (rows0 m c) (arg m c main_arg5)) (arg m c main_arg7) := by
  refine (KerHost.v36 (W0 m ρ c)).trans ?_
  rw [W0_args m ρ c main_arg0 (by decide), W0_args m ρ c main_arg2 (by decide), W0_args m ρ c main_arg3 (by decide), W0_args m ρ c main_arg4 (by decide), W0_args m ρ c main_arg5 (by decide), W0_args m ρ c main_arg7 (by decide)]
  rfl

/-- The first layer's values. -/
theorem v40_eq (c : Dev nD) : W1 m ρ c (Proc.devRef .tc main_v40) = valK (rmsK (rows0 m c) (arg m c main_arg5)) (arg m c main_arg8) := by
  refine (KerHost.v40 (W0 m ρ c)).trans ?_
  rw [W0_args m ρ c main_arg0 (by decide), W0_args m ρ c main_arg2 (by decide), W0_args m ρ c main_arg3 (by decide), W0_args m ρ c main_arg4 (by decide), W0_args m ρ c main_arg5 (by decide), W0_args m ρ c main_arg8 (by decide)]
  rfl

/-- The first layer's positions in upward order of the keys. -/
theorem v41_eq (c : Dev nD) : W2 m ρ c (Proc.devRef .tc main_v41) = orderK (projK (rmsK (rows0 m c) (arg m c main_arg5)) (arg m c main_arg7)) := by
  refine (KerHost.v41 (W1 m ρ c)).trans ?_
  rw [v36_eq]

/-- Their last 32. -/
theorem v42_eq (c : Dev nD) : W3 m ρ c (Proc.devRef .tc main_v42) = topI (orderK (projK (rmsK (rows0 m c) (arg m c main_arg5)) (arg m c main_arg7))) := by
  refine (KerHost.v42 (W2 m ρ c)).trans ?_
  rw [v41_eq]

/-- Their first 32. -/
theorem v43_eq (c : Dev nD) : W3 m ρ c (Proc.devRef .tc main_v43) = botI (orderK (projK (rmsK (rows0 m c) (arg m c main_arg5)) (arg m c main_arg7))) := by
  refine (KerHost.v43 (W2 m ρ c)).trans ?_
  rw [v41_eq]

/-- The first layer's greatest keys. -/
theorem v44_eq (c : Dev nD) : W4 m ρ c (Proc.devRef .tc main_v44) = takeK (projK (rmsK (rows0 m c) (arg m c main_arg5)) (arg m c main_arg7)) (topI (orderK (projK (rmsK (rows0 m c) (arg m c main_arg5)) (arg m c main_arg7)))) := by
  refine (KerHost.v44 (W3 m ρ c)).trans ?_
  rw [W3_of m ρ c main_v36 (by decide), W2_of m ρ c main_v36 (by decide), v36_eq, v42_eq]

/-- The first layer's least keys. -/
theorem v45_eq (c : Dev nD) : W5 m ρ c (Proc.devRef .tc main_v45) = takeK (projK (rmsK (rows0 m c) (arg m c main_arg5)) (arg m c main_arg7)) (botI (orderK (projK (rmsK (rows0 m c) (arg m c main_arg5)) (arg m c main_arg7)))) := by
  refine (KerHost.v45 (W4 m ρ c)).trans ?_
  rw [W4_of m ρ c main_v36 (by decide), W3_of m ρ c main_v36 (by decide), W2_of m ρ c main_v36 (by decide), v36_eq, W4_of m ρ c main_v43 (by decide), v43_eq]

/-- The last 32 positions with a trailing axis. -/
theorem v46_eq (c : Dev nD) : W6 m ρ c (Proc.devRef .tc main_v46) = unitI (topI (orderK (projK (rmsK (rows0 m c) (arg m c main_arg5)) (arg m c main_arg7)))) := by
  refine (KerHost.v46 (W5 m ρ c)).trans ?_
  rw [W5_of m ρ c main_v42 (by decide), W4_of m ρ c main_v42 (by decide), v42_eq]

/-- The first layer's values at the greatest keys. -/
theorem v47_eq (c : Dev nD) : W7 m ρ c (Proc.devRef .tc main_v47) = takeV (valK (rmsK (rows0 m c) (arg m c main_arg5)) (arg m c main_arg8)) (unitI (topI (orderK (projK (rmsK (rows0 m c) (arg m c main_arg5)) (arg m c main_arg7))))) := by
  refine (KerHost.v47 (W6 m ρ c)).trans ?_
  rw [W6_of m ρ c main_v40 (by decide), W5_of m ρ c main_v40 (by decide), W4_of m ρ c main_v40 (by decide), W3_of m ρ c main_v40 (by decide), W2_of m ρ c main_v40 (by decide), v40_eq, v46_eq]

/-- The first 32 positions with a trailing axis. -/
theorem v48_eq (c : Dev nD) : W8 m ρ c (Proc.devRef .tc main_v48) = unitI (botI (orderK (projK (rmsK (rows0 m c) (arg m c main_arg5)) (arg m c main_arg7)))) := by
  refine (KerHost.v48 (W7 m ρ c)).trans ?_
  rw [W7_of m ρ c main_v43 (by decide), W6_of m ρ c main_v43 (by decide), W5_of m ρ c main_v43 (by decide), W4_of m ρ c main_v43 (by decide), v43_eq]

/-- The first layer's values at the least keys. -/
theorem v49_eq (c : Dev nD) : W9 m ρ c (Proc.devRef .tc main_v49) = takeV (valK (rmsK (rows0 m c) (arg m c main_arg5)) (arg m c main_arg8)) (unitI (botI (orderK (projK (rmsK (rows0 m c) (arg m c main_arg5)) (arg m c main_arg7))))) := by
  refine (KerHost.v49 (W8 m ρ c)).trans ?_
  rw [W8_of m ρ c main_v40 (by decide), W7_of m ρ c main_v40 (by decide), W6_of m ρ c main_v40 (by decide), W5_of m ρ c main_v40 (by decide), W4_of m ρ c main_v40 (by decide), W3_of m ρ c main_v40 (by decide), W2_of m ρ c main_v40 (by decide), v40_eq, v48_eq]

/-- The greatest keys by slot. -/
theorem v51_eq (c : Dev nD) : W10 m ρ c (Proc.devRef .tc main_v51) = slotK (takeK (projK (rmsK (rows0 m c) (arg m c main_arg5)) (arg m c main_arg7)) (topI (orderK (projK (rmsK (rows0 m c) (arg m c main_arg5)) (arg m c main_arg7))))) := by
  refine (KerHost.v51 (W9 m ρ c)).trans ?_
  rw [W9_of m ρ c main_v44 (by decide), W8_of m ρ c main_v44 (by decide), W7_of m ρ c main_v44 (by decide), W6_of m ρ c main_v44 (by decide), W5_of m ρ c main_v44 (by decide), v44_eq]

/-- The least keys by slot. -/
theorem v53_eq (c : Dev nD) : W10 m ρ c (Proc.devRef .tc main_v53) = slotK (takeK (projK (rmsK (rows0 m c) (arg m c main_arg5)) (arg m c main_arg7)) (botI (orderK (projK (rmsK (rows0 m c) (arg m c main_arg5)) (arg m c main_arg7))))) := by
  refine (KerHost.v53 (W9 m ρ c)).trans ?_
  rw [W9_of m ρ c main_v45 (by decide), W8_of m ρ c main_v45 (by decide), W7_of m ρ c main_v45 (by decide), W6_of m ρ c main_v45 (by decide), v45_eq]

/-- The values at the greatest keys by slot. -/
theorem v55_eq (c : Dev nD) : W10 m ρ c (Proc.devRef .tc main_v55) = slotV (takeV (valK (rmsK (rows0 m c) (arg m c main_arg5)) (arg m c main_arg8)) (unitI (topI (orderK (projK (rmsK (rows0 m c) (arg m c main_arg5)) (arg m c main_arg7)))))) := by
  refine (KerHost.v55 (W9 m ρ c)).trans ?_
  rw [W9_of m ρ c main_v47 (by decide), W8_of m ρ c main_v47 (by decide), v47_eq]

/-- The values at the least keys by slot. -/
theorem v57_eq (c : Dev nD) : W10 m ρ c (Proc.devRef .tc main_v57) = slotV (takeV (valK (rmsK (rows0 m c) (arg m c main_arg5)) (arg m c main_arg8)) (unitI (botI (orderK (projK (rmsK (rows0 m c) (arg m c main_arg5)) (arg m c main_arg7)))))) := by
  refine (KerHost.v57 (W9 m ρ c)).trans ?_
  rw [v49_eq]

/-- The rows. -/
theorem v58_eq (c : Dev nD) : W10 m ρ c (Proc.devRef .tc main_v58) = rowsX (rows0 m c) := by
  refine (KerHost.v58 (W9 m ρ c)).trans ?_
  rw [W9_of m ρ c main_v15 (by decide), W8_of m ρ c main_v15 (by decide), W7_of m ρ c main_v15 (by decide), W6_of m ρ c main_v15 (by decide), W5_of m ρ c main_v15 (by decide), W4_of m ρ c main_v15 (by decide), W3_of m ρ c main_v15 (by decide), W2_of m ρ c main_v15 (by decide), v15_eq]

/-- The queries by row. -/
theorem v60_eq (c : Dev nD) : W10 m ρ c (Proc.devRef .tc main_v60) = rowsQ (projK (rmsK (rows0 m c) (arg m c main_arg5)) (arg m c main_arg6)) := by
  refine (KerHost.v60 (W9 m ρ c)).trans ?_
  rw [W9_of m ρ c main_v34 (by decide), W8_of m ρ c main_v34 (by decide), W7_of m ρ c main_v34 (by decide), W6_of m ρ c main_v34 (by decide), W5_of m ρ c main_v34 (by decide), W4_of m ρ c main_v34 (by decide), W3_of m ρ c main_v34 (by decide), W2_of m ρ c main_v34 (by decide), v34_eq]

/-- The rows the first layer region leaves. -/
theorem v61_eq (c : Dev nD) : W11 m ρ c (Proc.devRef .tc main_v61) = rows1 m c := by
  refine (W11_arr m ρ c 11).trans ((Cert.Region0.final (V10 m ρ) c).trans ?_)
  have hv58 : V10 m ρ c main_v58 = rowsX (rows0 m c) := by
    show W10 m ρ c (Proc.devRef .tc main_v58) = _
    rw [v58_eq]
  have hv60 : V10 m ρ c main_v60 = rowsQ (projK (rmsK (rows0 m c) (arg m c main_arg5)) (arg m c main_arg6)) := by
    show W10 m ρ c (Proc.devRef .tc main_v60) = _
    rw [v60_eq]
  have hv51 : V10 m ρ c main_v51 = slotK (takeK (projK (rmsK (rows0 m c) (arg m c main_arg5)) (arg m c main_arg7)) (topI (orderK (projK (rmsK (rows0 m c) (arg m c main_arg5)) (arg m c main_arg7))))) := by
    show W10 m ρ c (Proc.devRef .tc main_v51) = _
    rw [v51_eq]
  have hv53 : V10 m ρ c main_v53 = slotK (takeK (projK (rmsK (rows0 m c) (arg m c main_arg5)) (arg m c main_arg7)) (botI (orderK (projK (rmsK (rows0 m c) (arg m c main_arg5)) (arg m c main_arg7))))) := by
    show W10 m ρ c (Proc.devRef .tc main_v53) = _
    rw [v53_eq]
  have hv55 : V10 m ρ c main_v55 = slotV (takeV (valK (rmsK (rows0 m c) (arg m c main_arg5)) (arg m c main_arg8)) (unitI (topI (orderK (projK (rmsK (rows0 m c) (arg m c main_arg5)) (arg m c main_arg7)))))) := by
    show W10 m ρ c (Proc.devRef .tc main_v55) = _
    rw [v55_eq]
  have hv57 : V10 m ρ c main_v57 = slotV (takeV (valK (rmsK (rows0 m c) (arg m c main_arg5)) (arg m c main_arg8)) (unitI (botI (orderK (projK (rmsK (rows0 m c) (arg m c main_arg5)) (arg m c main_arg7)))))) := by
    show W10 m ρ c (Proc.devRef .tc main_v57) = _
    rw [v57_eq]
  have hv16 : V10 m ρ c main_v16 = transpose S512x512 [1, 0] (arg m c main_arg9) transposes_S512x512_S512x512_1_0 := by
    show W10 m ρ c (Proc.devRef .tc main_v16) = _
    rw [W10_of m ρ c main_v16 (by decide), W9_of m ρ c main_v16 (by decide), W8_of m ρ c main_v16 (by decide), W7_of m ρ c main_v16 (by decide), W6_of m ρ c main_v16 (by decide), W5_of m ρ c main_v16 (by decide), W4_of m ρ c main_v16 (by decide), W3_of m ρ c main_v16 (by decide), W2_of m ρ c main_v16 (by decide), v16_eq]
  have harg10 : V10 m ρ c main_arg10 = arg m c main_arg10 := by
    show W10 m ρ c (Proc.devRef .tc main_arg10) = _
    rw [W10_args m ρ c main_arg10 (by decide)]
  have hv17 : V10 m ρ c main_v17 = transpose S512x1365 [1, 0] (arg m c main_arg11) transposes_S1365x512_S512x1365_1_0 := by
    show W10 m ρ c (Proc.devRef .tc main_v17) = _
    rw [W10_of m ρ c main_v17 (by decide), W9_of m ρ c main_v17 (by decide), W8_of m ρ c main_v17 (by decide), W7_of m ρ c main_v17 (by decide), W6_of m ρ c main_v17 (by decide), W5_of m ρ c main_v17 (by decide), W4_of m ρ c main_v17 (by decide), W3_of m ρ c main_v17 (by decide), W2_of m ρ c main_v17 (by decide), v17_eq]
  have hv18 : V10 m ρ c main_v18 = transpose S512x1365 [1, 0] (arg m c main_arg12) transposes_S1365x512_S512x1365_1_0 := by
    show W10 m ρ c (Proc.devRef .tc main_v18) = _
    rw [W10_of m ρ c main_v18 (by decide), W9_of m ρ c main_v18 (by decide), W8_of m ρ c main_v18 (by decide), W7_of m ρ c main_v18 (by decide), W6_of m ρ c main_v18 (by decide), W5_of m ρ c main_v18 (by decide), W4_of m ρ c main_v18 (by decide), W3_of m ρ c main_v18 (by decide), W2_of m ρ c main_v18 (by decide), v18_eq]
  have hv19 : V10 m ρ c main_v19 = transpose S1365x512 [1, 0] (arg m c main_arg13) transposes_S512x1365_S1365x512_1_0 := by
    show W10 m ρ c (Proc.devRef .tc main_v19) = _
    rw [W10_of m ρ c main_v19 (by decide), W9_of m ρ c main_v19 (by decide), W8_of m ρ c main_v19 (by decide), W7_of m ρ c main_v19 (by decide), W6_of m ρ c main_v19 (by decide), W5_of m ρ c main_v19 (by decide), W4_of m ρ c main_v19 (by decide), W3_of m ρ c main_v19 (by decide), W2_of m ρ c main_v19 (by decide), v19_eq]
  rw [hv58, hv60, hv51, hv53, hv55, hv57, hv16, harg10, hv17, hv18, hv19]
  rfl

/-- The first layer's rows. -/
theorem v62_eq (c : Dev nD) : W12 m ρ c (Proc.devRef .tc main_v62) = liftX (rows1 m c) := by
  refine (KerHost.v62 (W11 m ρ c)).trans ?_
  rw [v61_eq]

/-- The second layer's output weights, turned. -/
theorem v63_eq (c : Dev nD) : W12 m ρ c (Proc.devRef .tc main_v63) = transpose S512x512 [1, 0] (arg m c main_arg18) transposes_S512x512_S512x512_1_0 := by
  refine (KerHost.v63 (W11 m ρ c)).trans ?_
  rw [W11_args m ρ c main_arg18 (by decide)]

/-- The second layer's gate weights, turned. -/
theorem v64_eq (c : Dev nD) : W12 m ρ c (Proc.devRef .tc main_v64) = transpose S512x1365 [1, 0] (arg m c main_arg20) transposes_S1365x512_S512x1365_1_0 := by
  refine (KerHost.v64 (W11 m ρ c)).trans ?_
  rw [W11_args m ρ c main_arg20 (by decide)]

/-- The second layer's up weights, turned. -/
theorem v65_eq (c : Dev nD) : W12 m ρ c (Proc.devRef .tc main_v65) = transpose S512x1365 [1, 0] (arg m c main_arg21) transposes_S1365x512_S512x1365_1_0 := by
  refine (KerHost.v65 (W11 m ρ c)).trans ?_
  rw [W11_args m ρ c main_arg21 (by decide)]

/-- The second layer's down weights, turned. -/
theorem v66_eq (c : Dev nD) : W12 m ρ c (Proc.devRef .tc main_v66) = transpose S1365x512 [1, 0] (arg m c main_arg22) transposes_S512x1365_S1365x512_1_0 := by
  refine (KerHost.v66 (W11 m ρ c)).trans ?_
  rw [W11_args m ρ c main_arg22 (by decide)]

/-- The second layer's queries. -/
theorem v81_eq (c : Dev nD) : W12 m ρ c (Proc.devRef .tc main_v81) = projK (rmsK (liftX (rows1 m c)) (arg m c main_arg14)) (arg m c main_arg15) := by
  refine (KerHost.v81 (W11 m ρ c)).trans ?_
  rw [v61_eq, W11_args m ρ c main_arg14 (by decide), W11_args m ρ c main_arg15 (by decide)]

/-- The second layer's keys. -/
theorem v83_eq (c : Dev nD) : W12 m ρ c (Proc.devRef .tc main_v83) = projK (rmsK (liftX (rows1 m c)) (arg m c main_arg14)) (arg m c main_arg16) := by
  refine (KerHost.v83 (W11 m ρ c)).trans ?_
  rw [v61_eq, W11_args m ρ c main_arg14 (by decide), W11_args m ρ c main_arg16 (by decide)]

/-- The second layer's values. -/
theorem v87_eq (c : Dev nD) : W12 m ρ c (Proc.devRef .tc main_v87) = valK (rmsK (liftX (rows1 m c)) (arg m c main_arg14)) (arg m c main_arg17) := by
  refine (KerHost.v87 (W11 m ρ c)).trans ?_
  rw [v61_eq, W11_args m ρ c main_arg14 (by decide), W11_args m ρ c main_arg17 (by decide)]

/-- The second layer's positions in upward order of the keys. -/
theorem v88_eq (c : Dev nD) : W13 m ρ c (Proc.devRef .tc main_v88) = orderK (projK (rmsK (liftX (rows1 m c)) (arg m c main_arg14)) (arg m c main_arg16)) := by
  refine (KerHost.v88 (W12 m ρ c)).trans ?_
  rw [v83_eq]

/-- Their last 32. -/
theorem v89_eq (c : Dev nD) : W14 m ρ c (Proc.devRef .tc main_v89) = topI (orderK (projK (rmsK (liftX (rows1 m c)) (arg m c main_arg14)) (arg m c main_arg16))) := by
  refine (KerHost.v89 (W13 m ρ c)).trans ?_
  rw [v88_eq]

/-- Their first 32. -/
theorem v90_eq (c : Dev nD) : W14 m ρ c (Proc.devRef .tc main_v90) = botI (orderK (projK (rmsK (liftX (rows1 m c)) (arg m c main_arg14)) (arg m c main_arg16))) := by
  refine (KerHost.v90 (W13 m ρ c)).trans ?_
  rw [v88_eq]

/-- The second layer's greatest keys. -/
theorem v91_eq (c : Dev nD) : W15 m ρ c (Proc.devRef .tc main_v91) = takeK (projK (rmsK (liftX (rows1 m c)) (arg m c main_arg14)) (arg m c main_arg16)) (topI (orderK (projK (rmsK (liftX (rows1 m c)) (arg m c main_arg14)) (arg m c main_arg16)))) := by
  refine (KerHost.v91 (W14 m ρ c)).trans ?_
  rw [W14_of m ρ c main_v83 (by decide), W13_of m ρ c main_v83 (by decide), v83_eq, v89_eq]

/-- The second layer's least keys. -/
theorem v92_eq (c : Dev nD) : W16 m ρ c (Proc.devRef .tc main_v92) = takeK (projK (rmsK (liftX (rows1 m c)) (arg m c main_arg14)) (arg m c main_arg16)) (botI (orderK (projK (rmsK (liftX (rows1 m c)) (arg m c main_arg14)) (arg m c main_arg16)))) := by
  refine (KerHost.v92 (W15 m ρ c)).trans ?_
  rw [W15_of m ρ c main_v83 (by decide), W14_of m ρ c main_v83 (by decide), W13_of m ρ c main_v83 (by decide), v83_eq, W15_of m ρ c main_v90 (by decide), v90_eq]

/-- The last 32 positions with a trailing axis. -/
theorem v93_eq (c : Dev nD) : W17 m ρ c (Proc.devRef .tc main_v93) = unitI (topI (orderK (projK (rmsK (liftX (rows1 m c)) (arg m c main_arg14)) (arg m c main_arg16)))) := by
  refine (KerHost.v93 (W16 m ρ c)).trans ?_
  rw [W16_of m ρ c main_v89 (by decide), W15_of m ρ c main_v89 (by decide), v89_eq]

/-- The second layer's values at the greatest keys. -/
theorem v94_eq (c : Dev nD) : W18 m ρ c (Proc.devRef .tc main_v94) = takeV (valK (rmsK (liftX (rows1 m c)) (arg m c main_arg14)) (arg m c main_arg17)) (unitI (topI (orderK (projK (rmsK (liftX (rows1 m c)) (arg m c main_arg14)) (arg m c main_arg16))))) := by
  refine (KerHost.v94 (W17 m ρ c)).trans ?_
  rw [W17_of m ρ c main_v87 (by decide), W16_of m ρ c main_v87 (by decide), W15_of m ρ c main_v87 (by decide), W14_of m ρ c main_v87 (by decide), W13_of m ρ c main_v87 (by decide), v87_eq, v93_eq]

/-- The first 32 positions with a trailing axis. -/
theorem v95_eq (c : Dev nD) : W19 m ρ c (Proc.devRef .tc main_v95) = unitI (botI (orderK (projK (rmsK (liftX (rows1 m c)) (arg m c main_arg14)) (arg m c main_arg16)))) := by
  refine (KerHost.v95 (W18 m ρ c)).trans ?_
  rw [W18_of m ρ c main_v90 (by decide), W17_of m ρ c main_v90 (by decide), W16_of m ρ c main_v90 (by decide), W15_of m ρ c main_v90 (by decide), v90_eq]

/-- The second layer's values at the least keys. -/
theorem v96_eq (c : Dev nD) : W20 m ρ c (Proc.devRef .tc main_v96) = takeV (valK (rmsK (liftX (rows1 m c)) (arg m c main_arg14)) (arg m c main_arg17)) (unitI (botI (orderK (projK (rmsK (liftX (rows1 m c)) (arg m c main_arg14)) (arg m c main_arg16))))) := by
  refine (KerHost.v96 (W19 m ρ c)).trans ?_
  rw [W19_of m ρ c main_v87 (by decide), W18_of m ρ c main_v87 (by decide), W17_of m ρ c main_v87 (by decide), W16_of m ρ c main_v87 (by decide), W15_of m ρ c main_v87 (by decide), W14_of m ρ c main_v87 (by decide), W13_of m ρ c main_v87 (by decide), v87_eq, v95_eq]

/-- The greatest keys by slot. -/
theorem v98_eq (c : Dev nD) : W21 m ρ c (Proc.devRef .tc main_v98) = slotK (takeK (projK (rmsK (liftX (rows1 m c)) (arg m c main_arg14)) (arg m c main_arg16)) (topI (orderK (projK (rmsK (liftX (rows1 m c)) (arg m c main_arg14)) (arg m c main_arg16))))) := by
  refine (KerHost.v98 (W20 m ρ c)).trans ?_
  rw [W20_of m ρ c main_v91 (by decide), W19_of m ρ c main_v91 (by decide), W18_of m ρ c main_v91 (by decide), W17_of m ρ c main_v91 (by decide), W16_of m ρ c main_v91 (by decide), v91_eq]

/-- The least keys by slot. -/
theorem v100_eq (c : Dev nD) : W21 m ρ c (Proc.devRef .tc main_v100) = slotK (takeK (projK (rmsK (liftX (rows1 m c)) (arg m c main_arg14)) (arg m c main_arg16)) (botI (orderK (projK (rmsK (liftX (rows1 m c)) (arg m c main_arg14)) (arg m c main_arg16))))) := by
  refine (KerHost.v100 (W20 m ρ c)).trans ?_
  rw [W20_of m ρ c main_v92 (by decide), W19_of m ρ c main_v92 (by decide), W18_of m ρ c main_v92 (by decide), W17_of m ρ c main_v92 (by decide), v92_eq]

/-- The values at the greatest keys by slot. -/
theorem v102_eq (c : Dev nD) : W21 m ρ c (Proc.devRef .tc main_v102) = slotV (takeV (valK (rmsK (liftX (rows1 m c)) (arg m c main_arg14)) (arg m c main_arg17)) (unitI (topI (orderK (projK (rmsK (liftX (rows1 m c)) (arg m c main_arg14)) (arg m c main_arg16)))))) := by
  refine (KerHost.v102 (W20 m ρ c)).trans ?_
  rw [W20_of m ρ c main_v94 (by decide), W19_of m ρ c main_v94 (by decide), v94_eq]

/-- The values at the least keys by slot. -/
theorem v104_eq (c : Dev nD) : W21 m ρ c (Proc.devRef .tc main_v104) = slotV (takeV (valK (rmsK (liftX (rows1 m c)) (arg m c main_arg14)) (arg m c main_arg17)) (unitI (botI (orderK (projK (rmsK (liftX (rows1 m c)) (arg m c main_arg14)) (arg m c main_arg16)))))) := by
  refine (KerHost.v104 (W20 m ρ c)).trans ?_
  rw [v96_eq]

/-- The rows. -/
theorem v105_eq (c : Dev nD) : W21 m ρ c (Proc.devRef .tc main_v105) = rowsX (liftX (rows1 m c)) := by
  refine (KerHost.v105 (W20 m ρ c)).trans ?_
  rw [W20_of m ρ c main_v62 (by decide), W19_of m ρ c main_v62 (by decide), W18_of m ρ c main_v62 (by decide), W17_of m ρ c main_v62 (by decide), W16_of m ρ c main_v62 (by decide), W15_of m ρ c main_v62 (by decide), W14_of m ρ c main_v62 (by decide), W13_of m ρ c main_v62 (by decide), v62_eq]

/-- The queries by row. -/
theorem v107_eq (c : Dev nD) : W21 m ρ c (Proc.devRef .tc main_v107) = rowsQ (projK (rmsK (liftX (rows1 m c)) (arg m c main_arg14)) (arg m c main_arg15)) := by
  refine (KerHost.v107 (W20 m ρ c)).trans ?_
  rw [W20_of m ρ c main_v81 (by decide), W19_of m ρ c main_v81 (by decide), W18_of m ρ c main_v81 (by decide), W17_of m ρ c main_v81 (by decide), W16_of m ρ c main_v81 (by decide), W15_of m ρ c main_v81 (by decide), W14_of m ρ c main_v81 (by decide), W13_of m ρ c main_v81 (by decide), v81_eq]

/-- The rows the second layer region leaves. -/
theorem v108_eq (c : Dev nD) : W22 m ρ c (Proc.devRef .tc main_v108) = rows2 m c := by
  refine (W22_arr m ρ c 11).trans ((Cert.Region1.final (V21 m ρ) c).trans ?_)
  have hv105 : V21 m ρ c main_v105 = rowsX (liftX (rows1 m c)) := by
    show W21 m ρ c (Proc.devRef .tc main_v105) = _
    rw [v105_eq]
  have hv107 : V21 m ρ c main_v107 = rowsQ (projK (rmsK (liftX (rows1 m c)) (arg m c main_arg14)) (arg m c main_arg15)) := by
    show W21 m ρ c (Proc.devRef .tc main_v107) = _
    rw [v107_eq]
  have hv98 : V21 m ρ c main_v98 = slotK (takeK (projK (rmsK (liftX (rows1 m c)) (arg m c main_arg14)) (arg m c main_arg16)) (topI (orderK (projK (rmsK (liftX (rows1 m c)) (arg m c main_arg14)) (arg m c main_arg16))))) := by
    show W21 m ρ c (Proc.devRef .tc main_v98) = _
    rw [v98_eq]
  have hv100 : V21 m ρ c main_v100 = slotK (takeK (projK (rmsK (liftX (rows1 m c)) (arg m c main_arg14)) (arg m c main_arg16)) (botI (orderK (projK (rmsK (liftX (rows1 m c)) (arg m c main_arg14)) (arg m c main_arg16))))) := by
    show W21 m ρ c (Proc.devRef .tc main_v100) = _
    rw [v100_eq]
  have hv102 : V21 m ρ c main_v102 = slotV (takeV (valK (rmsK (liftX (rows1 m c)) (arg m c main_arg14)) (arg m c main_arg17)) (unitI (topI (orderK (projK (rmsK (liftX (rows1 m c)) (arg m c main_arg14)) (arg m c main_arg16)))))) := by
    show W21 m ρ c (Proc.devRef .tc main_v102) = _
    rw [v102_eq]
  have hv104 : V21 m ρ c main_v104 = slotV (takeV (valK (rmsK (liftX (rows1 m c)) (arg m c main_arg14)) (arg m c main_arg17)) (unitI (botI (orderK (projK (rmsK (liftX (rows1 m c)) (arg m c main_arg14)) (arg m c main_arg16)))))) := by
    show W21 m ρ c (Proc.devRef .tc main_v104) = _
    rw [v104_eq]
  have hv63 : V21 m ρ c main_v63 = transpose S512x512 [1, 0] (arg m c main_arg18) transposes_S512x512_S512x512_1_0 := by
    show W21 m ρ c (Proc.devRef .tc main_v63) = _
    rw [W21_of m ρ c main_v63 (by decide), W20_of m ρ c main_v63 (by decide), W19_of m ρ c main_v63 (by decide), W18_of m ρ c main_v63 (by decide), W17_of m ρ c main_v63 (by decide), W16_of m ρ c main_v63 (by decide), W15_of m ρ c main_v63 (by decide), W14_of m ρ c main_v63 (by decide), W13_of m ρ c main_v63 (by decide), v63_eq]
  have harg19 : V21 m ρ c main_arg19 = arg m c main_arg19 := by
    show W21 m ρ c (Proc.devRef .tc main_arg19) = _
    rw [W21_args m ρ c main_arg19 (by decide)]
  have hv64 : V21 m ρ c main_v64 = transpose S512x1365 [1, 0] (arg m c main_arg20) transposes_S1365x512_S512x1365_1_0 := by
    show W21 m ρ c (Proc.devRef .tc main_v64) = _
    rw [W21_of m ρ c main_v64 (by decide), W20_of m ρ c main_v64 (by decide), W19_of m ρ c main_v64 (by decide), W18_of m ρ c main_v64 (by decide), W17_of m ρ c main_v64 (by decide), W16_of m ρ c main_v64 (by decide), W15_of m ρ c main_v64 (by decide), W14_of m ρ c main_v64 (by decide), W13_of m ρ c main_v64 (by decide), v64_eq]
  have hv65 : V21 m ρ c main_v65 = transpose S512x1365 [1, 0] (arg m c main_arg21) transposes_S1365x512_S512x1365_1_0 := by
    show W21 m ρ c (Proc.devRef .tc main_v65) = _
    rw [W21_of m ρ c main_v65 (by decide), W20_of m ρ c main_v65 (by decide), W19_of m ρ c main_v65 (by decide), W18_of m ρ c main_v65 (by decide), W17_of m ρ c main_v65 (by decide), W16_of m ρ c main_v65 (by decide), W15_of m ρ c main_v65 (by decide), W14_of m ρ c main_v65 (by decide), W13_of m ρ c main_v65 (by decide), v65_eq]
  have hv66 : V21 m ρ c main_v66 = transpose S1365x512 [1, 0] (arg m c main_arg22) transposes_S512x1365_S1365x512_1_0 := by
    show W21 m ρ c (Proc.devRef .tc main_v66) = _
    rw [W21_of m ρ c main_v66 (by decide), W20_of m ρ c main_v66 (by decide), W19_of m ρ c main_v66 (by decide), W18_of m ρ c main_v66 (by decide), W17_of m ρ c main_v66 (by decide), W16_of m ρ c main_v66 (by decide), W15_of m ρ c main_v66 (by decide), W14_of m ρ c main_v66 (by decide), W13_of m ρ c main_v66 (by decide), v66_eq]
  rw [hv105, hv107, hv98, hv100, hv102, hv104, hv63, harg19, hv64, hv65, hv66]
  rfl

/-- The second layer's rows. -/
theorem v110_eq (c : Dev nD) : W23 m ρ c (Proc.devRef .tc main_v110) = rowsX (liftX (rows2 m c)) := by
  refine (KerHost.v110 (W22 m ρ c)).trans ?_
  rw [v108_eq]

/-- The output weights, turned. -/
theorem v111_eq (c : Dev nD) : W23 m ρ c (Proc.devRef .tc main_v111) = transpose S512x256 [1, 0] (arg m c main_arg24) transposes_S256x512_S512x256_1_0 := by
  refine (KerHost.v111 (W22 m ρ c)).trans ?_
  rw [W22_args m ρ c main_arg24 (by decide)]

/-- The logits the last region leaves. -/
theorem v112_eq (c : Dev nD) : W24 m ρ c (Proc.devRef .tc main_v112) = logits m c := by
  refine (W24_arr m ρ c 3).trans ((Cert.Region2.final (V23 m ρ) c).trans ?_)
  have hv110 : V23 m ρ c main_v110 = rowsX (liftX (rows2 m c)) := v110_eq m ρ c
  have harg23 : V23 m ρ c main_arg23 = arg m c main_arg23 := W23_args m ρ c main_arg23 (by decide)
  have hv111 : V23 m ρ c main_v111 = transpose S512x256 [1, 0] (arg m c main_arg24) transposes_S256x512_S512x256_1_0 := v111_eq m ρ c
  rw [hv110, harg23, hv111]
  rfl

/-- The result. -/
theorem v113_eq (c : Dev nD) : W25 m ρ c (Proc.devRef .tc main_v113) = shapeCast S1x16384x256 (logits m c) shapeCasts_S16384x256_S1x16384x256 := by
  refine (KerHost.v113 (W24 m ρ c)).trans ?_
  rw [v112_eq]

end Cert.KerEntry

end
-- ==== Proof.KerRun.lean ====
/-
  The run of the kernel: its result array ends at the logits, its arguments unchanged.
-/
module

public import proofs.«01_k».proof.Proof.KerEntry

@[expose] public section

set_option maxRecDepth 16384

noncomputable section

namespace Cert.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
set_option backward.isDefEq.respectTransparency.types false in
/-- Every buffer of the TensorCore outside the regions ends at its contents at the last boundary. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W25 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h hz => h)

/-- The kernel's run: the result at the logits, the arguments unchanged. -/
theorem run : θ_run defs (onTc (τ := τ) (main (F := Ideal))) ⟨m, fun _ => 0, ρ⟩ (fun r => ∀ c : Dev nD,
      r.2.mem ((c.tc : Thread nD τ).loc main_v113) =
        shapeCast S1x16384x256 (Cert.KerEntry.logits m c) shapeCasts_S16384x256_S1x16384x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(h c _ (mem_uc main_v113 (by decide))).trans (Cert.KerEntry.v113_eq m ρ c),
      (h c _ (mem_uc main_arg0 (by decide))).trans (W25_main_arg0 m ρ c),
      (h c _ (mem_uc main_arg1 (by decide))).trans (W25_main_arg1 m ρ c),
      (h c _ (mem_uc main_arg2 (by decide))).trans (W25_main_arg2 m ρ c),
      (h c _ (mem_uc main_arg3 (by decide))).trans (W25_main_arg3 m ρ c),
      (h c _ (mem_uc main_arg4 (by decide))).trans (W25_main_arg4 m ρ c),
      (h c _ (mem_uc main_arg5 (by decide))).trans (W25_main_arg5 m ρ c),
      (h c _ (mem_uc main_arg6 (by decide))).trans (W25_main_arg6 m ρ c),
      (h c _ (mem_uc main_arg7 (by decide))).trans (W25_main_arg7 m ρ c),
      (h c _ (mem_uc main_arg8 (by decide))).trans (W25_main_arg8 m ρ c),
      (h c _ (mem_uc main_arg9 (by decide))).trans (W25_main_arg9 m ρ c),
      (h c _ (mem_uc main_arg10 (by decide))).trans (W25_main_arg10 m ρ c),
      (h c _ (mem_uc main_arg11 (by decide))).trans (W25_main_arg11 m ρ c),
      (h c _ (mem_uc main_arg12 (by decide))).trans (W25_main_arg12 m ρ c),
      (h c _ (mem_uc main_arg13 (by decide))).trans (W25_main_arg13 m ρ c),
      (h c _ (mem_uc main_arg14 (by decide))).trans (W25_main_arg14 m ρ c),
      (h c _ (mem_uc main_arg15 (by decide))).trans (W25_main_arg15 m ρ c),
      (h c _ (mem_uc main_arg16 (by decide))).trans (W25_main_arg16 m ρ c),
      (h c _ (mem_uc main_arg17 (by decide))).trans (W25_main_arg17 m ρ c),
      (h c _ (mem_uc main_arg18 (by decide))).trans (W25_main_arg18 m ρ c),
      (h c _ (mem_uc main_arg19 (by decide))).trans (W25_main_arg19 m ρ c),
      (h c _ (mem_uc main_arg20 (by decide))).trans (W25_main_arg20 m ρ c),
      (h c _ (mem_uc main_arg21 (by decide))).trans (W25_main_arg21 m ρ c),
      (h c _ (mem_uc main_arg22 (by decide))).trans (W25_main_arg22 m ρ c),
      (h c _ (mem_uc main_arg23 (by decide))).trans (W25_main_arg23 m ρ c),
      (h c _ (mem_uc main_arg24 (by decide))).trans (W25_main_arg24 m ρ c)⟩) (ends m ρ)

end Cert.KerRun

end
-- ==== Proof.RefRun.lean ====
/-
  The run of the reference: its result at the composed value of its arguments, its arguments unchanged.
-/
module

public import proofs.«01_k».proof.Proof.Gen.ReferenceIdeal.Run
public import proofs.«01_k».proof.Proof.Gen.ReferenceIdeal.Read
public import Idealize.ShloMosaic.Lib.Quiescent

@[expose] public section

set_option maxRecDepth 16384

namespace Cert.RefRun

open Cert.ReferenceIdeal Cert.ReferenceIdeal.Gen Cert.ReferenceIdeal.Read Idealize.ShloMosaic Idealize.ShloMosaic.TcCoe
open Idealize.ShloMosaic.StableHlo Idealize.SL.Sem

variable (m : (ℓ : Loc nD τ sig) → Buf (Elt Ideal) ℓ) (ρ : Dev nD → PrngReg)

/-- The reference's run. -/
theorem run : θ_run defs (onTc (τ := τ) (main (F := Ideal))) ⟨m, fun _ => 0, ρ⟩ (fun r => ∀ c : Dev nD,
      r.2.mem ((c.tc : Thread nD τ).loc main_v228) = val_main_v228 (F := Ideal)
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15))
        (m ((c.tc : Thread nD τ).loc main_arg16)) (m ((c.tc : Thread nD τ).loc main_arg17)) (m ((c.tc : Thread nD τ).loc main_arg18))
        (m ((c.tc : Thread nD τ).loc main_arg19)) (m ((c.tc : Thread nD τ).loc main_arg20)) (m ((c.tc : Thread nD τ).loc main_arg21))
        (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(h c).1.trans (val_main_v228_eq (launchContents m c)), (h c).2⟩)
    (Cert.ReferenceIdeal.Value.run m ρ)

/-- The reference leaves its arguments unchanged, and it has no semaphores. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  (θ_run defs _ _).mono (fun r h => ⟨fun c => (h c).2, sem_eq_zero_of_no_sems (by decide) r.2⟩) (Cert.ReferenceIdeal.Value.run m ρ)

end Cert.RefRun
-- ==== Proof.Embed.lean ====
/-
  The embedding of the byte sequence: the row of each byte, plus the row of its block and the row of its place in the
  block.
-/
module

public import proofs.«01_k».proof.Proof.Rows

@[expose] public section

noncomputable section

namespace Cert.Rows

open Idealize.ShloMosaic

/-- A byte wrapped round where it is negative. -/
def wrapByte (t : BitVec 32) : BitVec 32 := Scalar.select (IntOp.cmpi .slt t 0#32) (IntOp.addi t 256#32) t

/-- The row of a byte. -/
def token (t : BitVec 32) : Fin 256 := ⟨min (wrapByte t).toInt.toNat (256 - 1), by omega⟩

/-- The block of a position. -/
def blockOf (s : Fin 16384) : Fin 64 := ⟨s.val / 256, by omega⟩

/-- The place of a position in its block. -/
def localOf (s : Fin 16384) : Fin 256 := ⟨s.val % 256, by omega⟩

/-- The embedded rows. -/
def embed (t : Fin 16384 → BitVec 32) (e : Fin 256 → Fin 512 → EReal) (bp : Fin 64 → Fin 512 → EReal)
    (lp : Fin 256 → Fin 512 → EReal) (s : Fin 16384) (d : Fin 512) : EReal :=
  e (token (t s)) d + bp (blockOf s) d + lp (localOf s) d

end Cert.Rows

end
-- ==== Proof.RefEmbed.lean ====
/-
  The reference's embedding read at an index.
-/
module

public import proofs.«01_k».proof.Proof.Gen.ReferenceIdeal.Read
public import proofs.«01_k».proof.Proof.Embed
public import Idealize.ShloMosaic.Lib.ReduceAll

@[expose] public section

set_option maxRecDepth 16384

namespace Cert.RefEmbed

open Cert.ReferenceIdeal Cert.ReferenceIdeal.Gen Cert.ReferenceIdeal.Read Cert.Rows Idealize.ShloMosaic

/-- The gather of one component of a byte's row. -/
theorem gatherE_apply (x : FVec Ideal S256x512 .f32) (idx : IVec S16384x1 32) (s : Fin 16384) (d : Fin 512) :
    Host.gather gather_S256x512_S16384x1_S16384x512_1_0_n_n_0_1_1512 x idx (ix2 s d) =
      x (ix2 ⟨min (idx (ix2 s 0)).toInt.toNat (256 - 1), by omega⟩ d) := by
  unfold Host.gather
  congr 1
  funext a
  refine Fin.ext ?_
  generalize hd : gather_S256x512_S16384x1_S16384x512_1_0_n_n_0_1_1512 = g
  show g.start (ix2 s d) idx a + g.batchCoord (ix2 s d) a + g.offCoord (ix2 s d) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S256x512_S16384x1_S16384x512_1_0_n_n_0_1_1512] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x512_S16384x1_S16384x512_1_0_n_n_0_1_1512.startIndexMap from List.mem_singleton.mpr rfl)]
    have hsi : gather_S256x512_S16384x1_S16384x512_1_0_n_n_0_1_1512.siIdx (ix2 s d)
        ⟨List.idxOf (0 : Fin 2) gather_S256x512_S16384x1_S16384x512_1_0_n_n_0_1_1512.startIndexMap,
        List.idxOf_lt_length_iff.2 (List.mem_singleton.mpr rfl)⟩ = ix2 s 0 := by
      funext b; refine Fin.ext ?_
      match b with
      | ⟨0, _⟩ => rfl
      | ⟨1, _⟩ => rfl
    rw [hsi]
    rfl
  · rw [GatherDims.batchCoord_eq_zero _ _ _ (fun h => by simp [gather_S256x512_S16384x1_S16384x512_1_0_n_n_0_1_1512] at h)]
    unfold GatherDims.start
    rw [dif_neg (by simp [gather_S256x512_S16384x1_S16384x512_1_0_n_n_0_1_1512])]
    simp only [Nat.zero_add]
    unfold GatherDims.offCoord
    rw [dif_pos ((GatherDims.mem_sKept _ _).mpr (by simp [gather_S256x512_S16384x1_S16384x512_1_0_n_n_0_1_1512]))]
    rfl

/-- The byte, wrapped round, that the gather reads. -/
theorem byte_apply (t : IVec S1x16384 32) (s : Fin 16384) : val_main_v6 (F := Ideal) t (ix2 s 0) = wrapByte (t (ix2 0 s)) := by
  unfold wrapByte
  pointwise [val_main_v6, val_main_v5, val_main_v4, val_main_v3, val_main_v2, val_main_v1, val_main_v0, val_main_c, val_main_c_0]

/-- The rows of the blocks, one per position. -/
theorem block_apply (bp : FVec Ideal S64x512 .f32) (s : Fin 16384) (d : Fin 512) :
    val_main_v9 (F := Ideal) bp (ix2 s d) = bp (ix2 (blockOf s) d) := by
  pointwise [val_main_v9, val_main_v8]
  rfl

/-- The rows of the places in a block, one per position. -/
theorem local_apply (lp : FVec Ideal S256x512 .f32) (s : Fin 16384) (d : Fin 512) :
    val_main_v12 (F := Ideal) lp (ix2 s d) = lp (ix2 (localOf s) d) := by
  pointwise [val_main_v12, val_main_v11, val_main_v10]
  rfl

/-- The embedded rows. -/
theorem embedH_apply (t : IVec S1x16384 32) (e : FVec Ideal S256x512 .f32) (bp : FVec Ideal S64x512 .f32)
    (lp : FVec Ideal S256x512 .f32) (s : Fin 16384) (d : Fin 512) : val_main_v14 (F := Ideal) t e bp lp (ix2 s d) =
      embed (fun s => t (ix2 0 s)) (fun k d => e (ix2 k d)) (fun k d => bp (ix2 k d)) (fun k d => lp (ix2 k d)) s d := by
  refine (congrArg₂ (· + ·) (congrArg₂ (· + ·) ((gatherE_apply e _ s d).trans ?_) (block_apply bp s d)) (local_apply lp s d))
  refine congrArg (fun k : Fin 256 => e (ix2 k d)) (Fin.ext ?_)
  show min (val_main_v6 (F := Ideal) t (ix2 s 0)).toInt.toNat (256 - 1) = min (wrapByte (t (ix2 0 s))).toInt.toNat (256 - 1)
  rw [byte_apply]

end Cert.RefEmbed
-- ==== Proof.Layer.lean ====
/-
  The stages of one layer as whole-array functions, in the operations the reference is printed in. Both layers of
  the reference are these functions at their own arguments, so that each stage is read at an index once.
-/
module

public import proofs.«01_k».proof.Proof.Gen.ReferenceIdeal
public import proofs.«01_k».proof.Proof.Rows

@[expose] public section

noncomputable section

namespace Cert.Layer

open Cert.ReferenceIdeal Cert.ReferenceIdeal.Gen Idealize.ShloMosaic

/-- Root-mean-square normalisation of every row. -/
def rmsH (x : FVec Ideal S16384x512 .f32) (n : FVec Ideal S512 .f32) : FVec Ideal S16384x512 .f32 :=
  mulf (mulf x (broadcastInDim S16384x512 ![0, 1] bcast_S16384x1_S16384x512_0_1
    (Host.rsqrt (addf (Host.divf (broadcastInDim S16384x1 ![0] bcast_S16384_S16384x1_0
      (Host.reduceAdd (mulf x x) (constant S_ .f32 0x00000000#32) reducesTo_S16384x512_S16384_d1 h_S_))
      (broadcastInDim S16384x1 ![] bcast_S_S16384x1 (constant S_ .f32 0x44000000#32)))
      (broadcastInDim S16384x1 ![] bcast_S_S16384x1 (constant S_ .f32 0x34000000#32))))))
    (broadcastInDim S16384x512 ![0, 1] bcast_S1x512_S16384x512_0_1
      (broadcastInDim S1x512 ![1] bcast_S512_S1x512_1 n))

/-- One scalar per head and position: the queries, and the keys. -/
def projH (xn : FVec Ideal S16384x512 .f32) (w : FVec Ideal S128x512 .f32) : FVec Ideal S128x16384 .f32 :=
  Host.dotGeneral dot_S128x512_S16384x512_S128x16384_1_1_0_0_n_n none w xn

/-- The values, four components per head and position. -/
def valH (xn : FVec Ideal S16384x512 .f32) (w : FVec Ideal S512x512 .f32) : FVec Ideal S128x16384x4 .f32 :=
  transpose S128x16384x4 [1, 0, 2]
    (shapeCast S16384x128x4 (Host.dotGeneral dot_S16384x512_S512x512_S16384x512_1_0_0_1_n_n none xn
      (transpose S512x512 [1, 0] w transposes_S512x512_S512x512_1_0)) shapeCasts_S16384x512_S16384x128x4)
    transposes_S16384x128x4_S128x16384x4_1_0_2

/-- The positions of each head's keys in upward order of the keys. -/
def orderH (keys : FVec Ideal S128x16384 .f32) : IVec S128x16384 32 :=
  (Host.sort2 S128x16384 1 comparator_f32_i32_d1 keys (iotaInDim S128x16384 32 1)).2

/-- A position wrapped round where it is negative, one word per head and slot. -/
def wrapK (idx : IVec S128x16384 32) : IVec S128x16384x1 32 :=
  shapeCast S128x16384x1 (select (cmpi .slt idx (broadcastInDim S128x16384 ![] bcast_S_S128x16384 (constantI S_ 32 0#32)))
    (addi idx (broadcastInDim S128x16384 ![] bcast_S_S128x16384 (constantI S_ 32 16384#32))) idx)
    shapeCasts_S128x16384_S128x16384x1

/-- The same from positions with a trailing axis of size one. -/
def wrapV (idx : IVec S128x16384x1 32) : IVec S128x16384x1 32 :=
  select (cmpi .slt idx (broadcastInDim S128x16384x1 ![] bcast_S_S128x16384x1 (constantI S_ 32 0#32)))
    (addi idx (broadcastInDim S128x16384x1 ![] bcast_S_S128x16384x1 (constantI S_ 32 16384#32))) idx

/-- Whether a position is within the sequence. -/
def inside (i : IVec S128x16384x1 32) : IVec S128x16384 1 :=
  Host.reduce IntOp.andi (andi (cmpi .sge i (broadcastInDim S128x16384x1 ![] bcast_S_S128x16384x1 (constantI S_ 32 0#32)))
    (cmpi .sle i (broadcastInDim S128x16384x1 ![0, 1, 2] bcast_S1x1x1_S128x16384x1_0_1_2
      (broadcastInDim S1x1x1 ![2] bcast_S1_S1x1x1_2 (constantI S1 32 16383#32)))))
    (constantI S_ 1 1#1) reducesTo_S128x16384x1_S128x16384_d2 h_S_

/-- The keys taken along the sequence at the positions `idx`. -/
def takeK (keys : FVec Ideal S128x16384 .f32) (idx : IVec S128x16384 32) : FVec Ideal S128x16384 .f32 :=
  select (inside (wrapK idx))
    (Host.gather gather_S128x16384_S128x16384x1_S128x16384_n_1_0_0_1_2_11 keys (wrapK idx))
    (broadcastInDim S128x16384 ![] bcast_S_S128x16384 (constant S_ .f32 0x7FC00000#32))

/-- The values taken along the sequence at the positions `idx`. -/
def takeV (vals : FVec Ideal S128x16384x4 .f32) (idx : IVec S128x16384x1 32) : FVec Ideal S128x16384x4 .f32 :=
  select (broadcastInDim S128x16384x4 ![0, 1] bcast_S128x16384_S128x16384x4_0_1 (inside (wrapV idx)))
    (Host.gather gather_S128x16384x4_S128x16384x1_S128x16384x4_2_1_0_0_1_2_114 vals (wrapV idx))
    (broadcastInDim S128x16384x4 ![] bcast_S_S128x16384x4 (constant S_ .f32 0x7FC00000#32))

/-- The keys in upward order. -/
def sortedK (keys : FVec Ideal S128x16384 .f32) : FVec Ideal S128x16384 .f32 := takeK keys (orderH keys)

/-- The values in the keys' upward order. -/
def sortedV (keys : FVec Ideal S128x16384 .f32) (vals : FVec Ideal S128x16384x4 .f32) : FVec Ideal S128x16384x4 .f32 :=
  takeV vals (broadcastInDim S128x16384x1 ![0, 1] bcast_S128x16384_S128x16384x1_0_1 (orderH keys))

/-- Every query's scores against 32 keys of its head. -/
def scores (q : FVec Ideal S128x16384 .f32) (key : FVec Ideal S128x32 .f32) : FVec Ideal S128x16384x32 .f32 :=
  mulf (broadcastInDim S128x16384x32 ![0, 1, 2] bcast_S128x16384x1_S128x16384x32_0_1_2
      (broadcastInDim S128x16384x1 ![0, 1] bcast_S128x16384_S128x16384x1_0_1 q))
    (broadcastInDim S128x16384x32 ![0, 1, 2] bcast_S128x1x32_S128x16384x32_0_1_2
      (broadcastInDim S128x1x32 ![0, 2] bcast_S128x32_S128x1x32_0_2 key))

/-- The greatest score of each query. -/
def peak (s : FVec Ideal S128x16384x32 .f32) : FVec Ideal S128x16384 .f32 :=
  maximumf (broadcastInDim S128x16384 ![] bcast_S_S128x16384 (constant S_ .f32 0xFF800000#32))
    (Host.reduce FloatOps.maximumf s (constant S_ .f32 0xFF800000#32) reducesTo_S128x16384x32_S128x16384_d2 h_S_)

/-- The exponentials of the scores less the peak. -/
def expo (s : FVec Ideal S128x16384x32 .f32) : FVec Ideal S128x16384x32 .f32 :=
  Host.exp (subf s (broadcastInDim S128x16384x32 ![0, 1, 2] bcast_S128x16384x1_S128x16384x32_0_1_2
    (broadcastInDim S128x16384x1 ![0, 1] bcast_S128x16384_S128x16384x1_0_1 (peak s))))

/-- The softmax weights from the exponentials. -/
def weights (p : FVec Ideal S128x16384x32 .f32) : FVec Ideal S128x16384x32 .f32 :=
  Host.divf p (broadcastInDim S128x16384x32 ![0, 1, 2] bcast_S128x16384x1_S128x16384x32_0_1_2
    (broadcastInDim S128x16384x1 ![0, 1] bcast_S128x16384_S128x16384x1_0_1
      (Host.reduceAdd p (constant S_ .f32 0x00000000#32) reducesTo_S128x16384x32_S128x16384_d2 h_S_)))

/-- Softmax attention of every query over 32 keys and their values. -/
def attend (q : FVec Ideal S128x16384 .f32) (key : FVec Ideal S128x32 .f32) (v : FVec Ideal S128x32x4 .f32) :
    FVec Ideal S128x16384x4 .f32 :=
  Host.dotGeneral dot_S128x16384x32_S128x32x4_S128x16384x4_2_1_1_2_0_0 none (weights (expo (scores q key))) v

/-- One where the query is positive, zero elsewhere. -/
def sign (q : FVec Ideal S128x16384 .f32) : FVec Ideal S128x16384x1 .f32 :=
  broadcastInDim S128x16384x1 ![0, 1] bcast_S128x16384_S128x16384x1_0_1
    (uitofp .f32 (cmpf .ogt q (broadcastInDim S128x16384 ![] bcast_S_S128x16384 (constant S_ .f32 0x00000000#32))))

/-- The two attention outputs blended by the sign of the query, as rows of 512 features. -/
def blend (q : FVec Ideal S128x16384 .f32) (top bot : FVec Ideal S128x16384x4 .f32) : FVec Ideal S16384x512 .f32 :=
  shapeCast S16384x512 (transpose S16384x128x4 [1, 0, 2]
    (addf (mulf (broadcastInDim S128x16384x4 ![0, 1, 2] bcast_S128x16384x1_S128x16384x4_0_1_2 (sign q)) top)
      (mulf (broadcastInDim S128x16384x4 ![0, 1, 2] bcast_S128x16384x1_S128x16384x4_0_1_2
        (subf (broadcastInDim S128x16384x1 ![] bcast_S_S128x16384x1 (constant S_ .f32 0x3F800000#32)) (sign q))) bot))
    transposes_S128x16384x4_S16384x128x4_1_0_2) shapeCasts_S16384x128x4_S16384x512

/-- The last 32 of the sorted keys. -/
def topK (k : FVec Ideal S128x16384 .f32) : FVec Ideal S128x32 .f32 :=
  extractStridedSlice S128x32 ![0, 16352] k slices_S128x16384_S128x32_0_16352

/-- The first 32 of the sorted keys. -/
def botK (k : FVec Ideal S128x16384 .f32) : FVec Ideal S128x32 .f32 :=
  extractStridedSlice S128x32 ![0, 0] k slices_S128x16384_S128x32_0_0

/-- The values of the last 32 of the sorted keys. -/
def topV (v : FVec Ideal S128x16384x4 .f32) : FVec Ideal S128x32x4 .f32 :=
  extractStridedSlice S128x32x4 ![0, 16352, 0] v slices_S128x16384x4_S128x32x4_0_16352_0

/-- The values of the first 32 of the sorted keys. -/
def botV (v : FVec Ideal S128x16384x4 .f32) : FVec Ideal S128x32x4 .f32 :=
  extractStridedSlice S128x32x4 ![0, 0, 0] v slices_S128x16384x4_S128x32x4_0_0_0

/-- The attention of every position, from its queries, the keys and the values. -/
def attnH (q keys : FVec Ideal S128x16384 .f32) (vals : FVec Ideal S128x16384x4 .f32) : FVec Ideal S16384x512 .f32 :=
  blend q (attend q (topK (sortedK keys)) (topV (sortedV keys vals))) (attend q (botK (sortedK keys)) (botV (sortedV keys vals)))

/-- Rows plus their attention output through the output projection. -/
def mixH (x att : FVec Ideal S16384x512 .f32) (wo : FVec Ideal S512x512 .f32) : FVec Ideal S16384x512 .f32 :=
  addf x (Host.dotGeneral dot_S16384x512_S512x512_S16384x512_1_0_0_1_n_n none att
    (transpose S512x512 [1, 0] wo transposes_S512x512_S512x512_1_0))

/-- A product of the normalised rows with one of the two up projections. -/
def upH (xn : FVec Ideal S16384x512 .f32) (w : FVec Ideal S1365x512 .f32) : FVec Ideal S16384x1365 .f32 :=
  Host.dotGeneral dot_S16384x512_S512x1365_S16384x1365_1_0_0_1_n_n none xn
    (transpose S512x1365 [1, 0] w transposes_S1365x512_S512x1365_1_0)

/-- The gate's activation: `g / (1 + exp (-g))`. -/
def siluH (g : FVec Ideal S16384x1365 .f32) : FVec Ideal S16384x1365 .f32 :=
  mulf g (Host.divf (broadcastInDim S16384x1365 ![] bcast_S_S16384x1365 (constant S_ .f32 0x3F800000#32))
    (addf (broadcastInDim S16384x1365 ![] bcast_S_S16384x1365 (constant S_ .f32 0x3F800000#32)) (Host.exp (Host.negf g))))

/-- The feed-forward step with its residual. -/
def ffnH (y : FVec Ideal S16384x512 .f32) (n2 : FVec Ideal S512 .f32) (wg wu : FVec Ideal S1365x512 .f32)
    (wd : FVec Ideal S512x1365 .f32) : FVec Ideal S16384x512 .f32 :=
  addf y (Host.dotGeneral dot_S16384x1365_S1365x512_S16384x512_1_0_0_1_n_n none
    (mulf (siluH (upH (rmsH y n2) wg)) (upH (rmsH y n2) wu))
    (transpose S1365x512 [1, 0] wd transposes_S512x1365_S1365x512_1_0))

/-- One whole layer. -/
def layerH (x : FVec Ideal S16384x512 .f32) (n1 : FVec Ideal S512 .f32) (wq wk : FVec Ideal S128x512 .f32)
    (wv wo : FVec Ideal S512x512 .f32) (n2 : FVec Ideal S512 .f32) (wg wu : FVec Ideal S1365x512 .f32)
    (wd : FVec Ideal S512x1365 .f32) : FVec Ideal S16384x512 .f32 :=
  ffnH (mixH x (attnH (projH (rmsH x n1) wq) (projH (rmsH x n1) wk) (valH (rmsH x n1) wv)) wo) n2 wg wu wd

/-- The last projection of the normalised rows, with a leading axis of size one. -/
def finalH (x : FVec Ideal S16384x512 .f32) (n : FVec Ideal S512 .f32) (w : FVec Ideal S256x512 .f32) :
    FVec Ideal S1x16384x256 .f32 :=
  broadcastInDim S1x16384x256 ![1, 2] bcast_S16384x256_S1x16384x256_1_2
    (Host.dotGeneral dot_S16384x512_S512x256_S16384x256_1_0_0_1_n_n none (rmsH x n)
      (transpose S512x256 [1, 0] w transposes_S256x512_S512x256_1_0))

end Cert.Layer

end
-- ==== Proof.RefReads.lean ====
/-
  The reference's stages read at an index: a normalisation, the attention's parts, the two residual steps and the last
  projection are the row functions of `Rows`.
-/
module

public import proofs.«01_k».proof.Proof.Layer

@[expose] public section

set_option maxRecDepth 16384

namespace Cert.RefReads

open Cert.ReferenceIdeal Cert.ReferenceIdeal.Gen Cert.Layer Cert.Rows Idealize.ShloMosaic

/-- A normalised row. -/
theorem rmsH_apply (x : FVec Ideal S16384x512 .f32) (n : FVec Ideal S512 .f32) (s : Fin 16384) (d : Fin 512) :
    rmsH x n (ix2 s d) = rms (fun e => x (ix2 s e)) (fun e => n (ix1 e)) d := by
  unfold rms width eps
  pointwise [rmsH]

/-- A score. -/
theorem scores_apply (q : FVec Ideal S128x16384 .f32) (key : FVec Ideal S128x32 .f32) (h : Fin 128) (s : Fin 16384) (k : Fin 32) :
    scores q key (ix3 h s k) = q (ix2 h s) * key (ix2 h k) := by
  pointwise [scores]

/-- A truth value as a number. -/
theorem uitofp_decide (p : Prop) [Decidable p] :
    (FloatOps.uitofp FTy.f32 (BitVec.ofBool (decide p)) : Ideal .f32) = if p then (1 : EReal) else 0 := by
  show (((BitVec.ofBool (decide p)).toNat : ℝ) : EReal) = _
  by_cases h : p <;> simp [h]

/-- The sign of a query as a number. -/
theorem sign_apply (q : FVec Ideal S128x16384 .f32) (h : Fin 128) (s : Fin 16384) :
    sign q (ix3 h s 0) = if 0 < q (ix2 h s) then 1 else 0 := by
  pointwise [sign]
  exact uitofp_decide _

/-- The last projection of a row. -/
theorem finalH_apply (x : FVec Ideal S16384x512 .f32) (n : FVec Ideal S512 .f32) (w : FVec Ideal S256x512 .f32)
    (s : Fin 16384) (o : Fin 256) :
    finalH x n w (ix3 0 s o) = final (fun e => x (ix2 s e)) (fun e => n (ix1 e)) (fun e o => w (ix2 o e)) o := by
  unfold final
  simp only [← rmsH_apply]
  pointwise [finalH]

/-- A row with its attention output. -/
theorem mixH_apply (x att : FVec Ideal S16384x512 .f32) (wo : FVec Ideal S512x512 .f32) (s : Fin 16384) (d : Fin 512) :
    mixH x att wo (ix2 s d) = mix (fun e => x (ix2 s e)) (fun e => att (ix2 s e)) (fun e d => wo (ix2 d e)) d := by
  unfold mix
  pointwise [mixH]

/-- An up projection of a row. -/
theorem upH_apply (xn : FVec Ideal S16384x512 .f32) (w : FVec Ideal S1365x512 .f32) (s : Fin 16384) (h : Fin 1365) :
    upH xn w (ix2 s h) = ∑ e, xn (ix2 s e) * w (ix2 h e) := by
  pointwise [upH]

/-- The gate's activation is the logistic function times its argument. -/
theorem siluH_apply (g : FVec Ideal S16384x1365 .f32) (s : Fin 16384) (h : Fin 1365) :
    siluH g (ix2 s h) = g (ix2 s h) * Ideal.logistic (g (ix2 s h)) := by
  pointwise [siluH]
  rfl

/-- The feed-forward step on a row. -/
theorem ffnH_apply (y : FVec Ideal S16384x512 .f32) (n2 : FVec Ideal S512 .f32) (wg wu : FVec Ideal S1365x512 .f32)
    (wd : FVec Ideal S512x1365 .f32) (s : Fin 16384) (d : Fin 512) :
    ffnH y n2 wg wu wd (ix2 s d) = ffn (fun e => y (ix2 s e)) (fun e => n2 (ix1 e)) (fun e h => wg (ix2 h e))
      (fun e h => wu (ix2 h e)) (fun h d => wd (ix2 d h)) d := by
  have hg : ∀ h : Fin 1365, gated (rms (fun e => y (ix2 s e)) (fun e => n2 (ix1 e))) (fun e h => wg (ix2 h e))
      (fun e h => wu (ix2 h e)) h = mulf (siluH (upH (rmsH y n2) wg)) (upH (rmsH y n2) wu) (ix2 s h) := by
    intro h
    simp only [mulf, siluH_apply, upH_apply, rmsH_apply]
    rfl
  unfold ffn
  simp only [hg]
  pointwise [ffnH]

/-- The blended attention of a row. -/
theorem blend_apply (q : FVec Ideal S128x16384 .f32) (top bot : FVec Ideal S128x16384x4 .f32) (s : Fin 16384) (e : Fin 512) :
    blend q top bot (ix2 s e) = sign q (ix3 (head e) s 0) * top (ix3 (head e) s (comp e)) +
      (1 - sign q (ix3 (head e) s 0)) * bot (ix3 (head e) s (comp e)) := by
  pointwise [blend]
  rfl

/-- The softmax-weighted values. -/
theorem attend_apply (q : FVec Ideal S128x16384 .f32) (key : FVec Ideal S128x32 .f32) (v : FVec Ideal S128x32x4 .f32)
    (h : Fin 128) (s : Fin 16384) (c : Fin 4) :
    attend q key v (ix3 h s c) = softmaxDot (q (ix2 h s)) (fun k => key (ix2 h k)) (peak (scores q key) (ix2 h s))
      (fun k => v (ix3 h k c)) := by
  unfold softmaxDot
  simp only [← scores_apply]
  pointwise [attend, weights, expo]

end Cert.RefReads

end
-- ==== Proof.RefTake.lean ====
/-
  The reference's sort and its two gathers along the sequence, read at an index.
-/
module

public import proofs.«01_k».proof.Proof.Layer
public import proofs.«01_k».proof.Proof.Words
public import Idealize.ShloMosaic.Lib.ReduceAll

@[expose] public section

set_option maxRecDepth 16384

namespace Cert.RefReads

open Cert.ReferenceIdeal Cert.ReferenceIdeal.Gen Cert.Layer Cert.Rows Idealize.ShloMosaic

/-- The gather of one key: the operand's entry of the same head at the start index, read signed and clamped. -/
theorem gatherK_apply (x : FVec Ideal S128x16384 .f32) (idx : IVec S128x16384x1 32) (h : Fin 128) (j : Fin 16384) :
    Host.gather gather_S128x16384_S128x16384x1_S128x16384_n_1_0_0_1_2_11 x idx (ix2 h j) =
      x (ix2 h ⟨min (idx (ix3 h j 0)).toInt.toNat (16384 - 1), by omega⟩) := by
  unfold Host.gather
  congr 1
  funext a
  refine Fin.ext ?_
  generalize hd : gather_S128x16384_S128x16384x1_S128x16384_n_1_0_0_1_2_11 = d
  show d.start (ix2 h j) idx a + d.batchCoord (ix2 h j) a + d.offCoord (ix2 h j) a = _
  subst hd
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S128x16384_S128x16384x1_S128x16384_n_1_0_0_1_2_11.operandBatchingDims from List.mem_singleton.mpr rfl)]
    rfl
  · rw [GatherDims.batchCoord_eq_zero _ _ _ (fun h => by simp [gather_S128x16384_S128x16384x1_S128x16384_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S128x16384_S128x16384x1_S128x16384_n_1_0_0_1_2_11.startIndexMap from List.mem_singleton.mpr rfl)]
    have hsi : gather_S128x16384_S128x16384x1_S128x16384_n_1_0_0_1_2_11.siIdx (ix2 h j)
        ⟨List.idxOf (1 : Fin 2) gather_S128x16384_S128x16384x1_S128x16384_n_1_0_0_1_2_11.startIndexMap,
        List.idxOf_lt_length_iff.2 (List.mem_singleton.mpr rfl)⟩ = ix3 h j 0 := by
      funext b; refine Fin.ext ?_
      match b with
      | ⟨0, _⟩ => rfl
      | ⟨1, _⟩ => rfl
      | ⟨2, _⟩ => rfl
    rw [hsi]
    rfl

/-- The gather of one component of a value. -/
theorem gatherV_apply (x : FVec Ideal S128x16384x4 .f32) (idx : IVec S128x16384x1 32) (h : Fin 128) (j : Fin 16384) (c : Fin 4) :
    Host.gather gather_S128x16384x4_S128x16384x1_S128x16384x4_2_1_0_0_1_2_114 x idx (ix3 h j c) =
      x (ix3 h ⟨min (idx (ix3 h j 0)).toInt.toNat (16384 - 1), by omega⟩ c) := by
  unfold Host.gather
  congr 1
  funext a
  refine Fin.ext ?_
  generalize hd : gather_S128x16384x4_S128x16384x1_S128x16384x4_2_1_0_0_1_2_114 = d
  show d.start (ix3 h j c) idx a + d.batchCoord (ix3 h j c) a + d.offCoord (ix3 h j c) a = _
  subst hd
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S128x16384x4_S128x16384x1_S128x16384x4_2_1_0_0_1_2_114.operandBatchingDims from List.mem_singleton.mpr rfl)]
    rfl
  · rw [GatherDims.batchCoord_eq_zero _ _ _ (fun h => by simp [gather_S128x16384x4_S128x16384x1_S128x16384x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S128x16384x4_S128x16384x1_S128x16384x4_2_1_0_0_1_2_114.startIndexMap from List.mem_singleton.mpr rfl)]
    have hsi : gather_S128x16384x4_S128x16384x1_S128x16384x4_2_1_0_0_1_2_114.siIdx (ix3 h j c)
        ⟨List.idxOf (1 : Fin 3) gather_S128x16384x4_S128x16384x1_S128x16384x4_2_1_0_0_1_2_114.startIndexMap,
        List.idxOf_lt_length_iff.2 (List.mem_singleton.mpr rfl)⟩ = ix3 h j 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp [gather_S128x16384x4_S128x16384x1_S128x16384x4_2_1_0_0_1_2_114] at h)]
    unfold GatherDims.start
    rw [dif_neg (by simp [gather_S128x16384x4_S128x16384x1_S128x16384x4_2_1_0_0_1_2_114])]
    simp only [Nat.zero_add]
    unfold GatherDims.offCoord
    rw [dif_pos ((GatherDims.mem_sKept _ _).mpr (by simp [gather_S128x16384x4_S128x16384x1_S128x16384x4_2_1_0_0_1_2_114]))]
    rfl

/-- A choice of zero where a number is zero is the number. -/
theorem zero_or (x : EReal) : (if BitVec.ofBool (decide (x = 0)) = 1#1 then 0 else x) = x := by
  by_cases h : x = 0 <;> simp [h]

/-- The comparator of the sort: whether the left key is below the right one. -/
theorem comparator_apply (l r : EReal × BitVec 32) :
    comparator_f32_i32_d1 (F := Ideal) l r = BitVec.ofBool (decide (l.1 < r.1)) := by
  unfold comparator_f32_i32_d1
  simp [Scalar.select, pointwise]
  rw [zero_or, zero_or]
  rfl

/-- The order's words: slot `j` of head `h` holds the place of the `j`-th key in upward order. -/
theorem orderH_apply (keys : FVec Ideal S128x16384 .f32) (h : Fin 128) (j : Fin 16384) :
    orderH keys (ix2 h j) = BitVec.ofNat 32 (order (fun s => keys (ix2 h s)) j).val := by
  have hal : ∀ k : Fin 16384, (ix2 h j : S128x16384.Idx).along (1 : Fin 2) k = ix2 h k := by
    intro k; funext b
    match b with
    | ⟨0, _⟩ => rfl
    | ⟨1, _⟩ => rfl
  unfold orderH Host.sort2 order
  rw [dif_pos (show 1 < S128x16384.rank by decide)]
  simp only [comparator_apply]
  have hio : ∀ k : Fin 16384, iotaInDim S128x16384 32 1 (ix2 h k) = BitVec.ofNat 32 k.val := fun _ => rfl
  have hB : ∀ (B : Fin 16384 → Fin 16384 → Bool) (hB : B = fun k k' => decide (keys (ix2 h k) < keys (ix2 h k'))),
      iotaInDim S128x16384 32 1 ((ix2 h j : S128x16384.Idx).along (1 : Fin 2) (sortedFrom B j)) =
        BitVec.ofNat 32 (sortedFrom (fun k k' => decide (keys (ix2 h k) < keys (ix2 h k'))) j).val := by
    intro B hB
    subst hB
    exact (congrArg (iotaInDim S128x16384 32 1) (hal _)).trans (hio _)
  refine hB _ ?_
  funext k k'
  have e1 := hal k
  have e2 := hal k'
  show (BitVec.ofBool (decide (keys ((ix2 h j : S128x16384.Idx).along (1 : Fin 2) k) < keys ((ix2 h j : S128x16384.Idx).along (1 : Fin 2) k'))) == 1#1) = _
  rw [e1, e2]
  by_cases hlt : keys (ix2 h k) < keys (ix2 h k') <;> simp [hlt]

/-- The wrapped position, for the keys. -/
theorem wrapK_apply (idx : IVec S128x16384 32) (h : Fin 128) (j : Fin 16384) (p : Fin 16384) (hp : idx (ix2 h j) = word p) :
    wrapK idx (ix3 h j 0) = word p := by
  rw [← word_wrap p (IntOp.addi (word p) 16384#32), ← hp]
  pointwise [wrapK]

/-- The wrapped position, for the values. -/
theorem wrapV_apply (idx : IVec S128x16384x1 32) (h : Fin 128) (j : Fin 16384) (p : Fin 16384) (hp : idx (ix3 h j 0) = word p) :
    wrapV idx (ix3 h j 0) = word p := by
  rw [← word_wrap p (IntOp.addi (word p) 16384#32), ← hp]
  pointwise [wrapV]

/-- Where every word is a place in the sequence, all of them are inside. -/
theorem inside_apply (i : IVec S128x16384x1 32) (f : Fin 128 → Fin 16384 → Fin 16384) (hf : ∀ h j, i (ix3 h j 0) = word (f h j))
    (h : Fin 128) (j : Fin 16384) : inside i (ix2 h j) = 1#1 := by
  refine Host.reduce_andi_one _ _ _ _ _ rfl ?_
  intro k
  have hk : k = ix3 (k 0) (k 1) 0 := by
    funext b
    match b with
    | ⟨0, _⟩ => rfl
    | ⟨1, _⟩ => rfl
    | ⟨2, _⟩ => exact Subsingleton.elim (α := Fin 1) _ _
  have hw : i k = word (f (k 0) (k 1)) := (congrArg i hk).trans (hf (k 0) (k 1))
  rw [← word_inside (f (k 0) (k 1)), ← hw]
  rfl

/-- The keys taken in upward order. -/
theorem sortedK_apply (keys : FVec Ideal S128x16384 .f32) (h : Fin 128) (j : Fin 16384) :
    sortedK keys (ix2 h j) = keys (ix2 h (order (fun s => keys (ix2 h s)) j)) := by
  have hw : ∀ h j, wrapK (orderH keys) (ix3 h j 0) = word (order (fun s => keys (ix2 h s)) j) :=
    fun h j => wrapK_apply _ _ _ _ (orderH_apply keys h j)
  have hi := inside_apply _ _ hw h j
  unfold sortedK takeK
  show Scalar.select (inside (wrapK (orderH keys)) (ix2 h j)) _ _ = _
  rw [hi, gatherK_apply]
  show keys _ = keys _
  refine congrArg (fun p : Fin 16384 => keys (ix2 h p)) (Fin.ext ?_)
  show min (wrapK (orderH keys) (ix3 h j 0)).toInt.toNat (16384 - 1) = _
  rw [hw]
  exact word_clamp _

/-- The values taken in the keys' upward order. -/
theorem sortedV_apply (keys : FVec Ideal S128x16384 .f32) (vals : FVec Ideal S128x16384x4 .f32) (h : Fin 128) (j : Fin 16384)
    (c : Fin 4) : sortedV keys vals (ix3 h j c) = vals (ix3 h (order (fun s => keys (ix2 h s)) j) c) := by
  have hw : ∀ h j, wrapV (broadcastInDim S128x16384x1 ![0, 1] bcast_S128x16384_S128x16384x1_0_1 (orderH keys)) (ix3 h j 0) =
      word (order (fun s => keys (ix2 h s)) j) := by
    intro h j
    refine wrapV_apply _ _ _ _ ?_
    refine Eq.trans ?_ (orderH_apply keys h j)
    pointwise
  have hi := inside_apply _ _ hw h j
  unfold sortedV takeV
  generalize wrapV (broadcastInDim S128x16384x1 ![0, 1] bcast_S128x16384_S128x16384x1_0_1 (orderH keys)) = w at hw hi
  have hb : broadcastInDim S128x16384x4 ![0, 1] bcast_S128x16384_S128x16384x4_0_1 (inside w) (ix3 h j c) = inside w (ix2 h j) := by
    generalize inside w = z
    pointwise
  show Scalar.select (broadcastInDim S128x16384x4 ![0, 1] bcast_S128x16384_S128x16384x4_0_1 (inside w) (ix3 h j c)) _ _ = _
  rw [hb, hi, gatherV_apply]
  show vals _ = vals _
  refine congrArg (fun p : Fin 16384 => vals (ix3 h p c)) (Fin.ext ?_)
  show min (w (ix3 h j 0)).toInt.toNat (16384 - 1) = _
  rw [hw]
  exact word_clamp _

end Cert.RefReads

end
-- ==== Proof.Peak.lean ====
/-
  The greatest score of a query, read at an index. The maximum is over 32 scores, from minus infinity.
-/
module

public import proofs.«01_k».proof.Proof.Layer

@[expose] public section

set_option maxRecDepth 16384

namespace Cert.RefReads

open Cert.ReferenceIdeal Cert.ReferenceIdeal.Gen Cert.Layer Cert.Rows Idealize.ShloMosaic

/-- A maximum over the last of three axes, from an initial value. -/
theorem reduceMax_apply {n0 n1 n2 : Nat} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1)
    (z : EReal) (hz : init (Shape.Idx.first hu) = z) :
    Host.reduce FloatOps.maximumf x init h hu (ix2 a b) = Finset.univ.fold max z (fun k : Fin n2 => x (ix3 a b k)) := by
  subst hz
  simp only [pointwise]

/-- A maximum with a constant, at an index. -/
theorem maxConst_apply (b : BitVec 32) (r : FVec Ideal S128x16384 .f32) (j : S128x16384.Idx) :
    maximumf (broadcastInDim S128x16384 ![] bcast_S_S128x16384 (constant S_ .f32 b)) r j = max (Ideal.ofBits .f32 b) (r j) := rfl

/-- The greatest score. -/
theorem peak_apply (s : FVec Ideal S128x16384x32 .f32) (h : Fin 128) (p : Fin 16384) :
    peak s (ix2 h p) = max (Ideal.ofBits .f32 0xFF800000#32)
      (Finset.univ.fold max (Ideal.ofBits .f32 0xFF800000#32) (fun k : Fin 32 => s (ix3 h p k))) := by
  unfold peak
  rw [maxConst_apply]
  generalize hr : Host.reduce FloatOps.maximumf s (constant S_ .f32 0xFF800000#32) reducesTo_S128x16384x32_S128x16384_d2 h_S_ (ix2 h p) = r
  rw [← hr, reduceMax_apply _ _ _ _ _ _ (Ideal.ofBits .f32 0xFF800000#32) rfl]

end Cert.RefReads

end
-- ==== Proof.Order.lean ====
/-
  Facts about the upward order and about the greatest of 32 scores: the keys in upward order ascend, so the greatest
  product with a positive query is at the last of the top keys and with any other query at the first of the bottom keys.
-/
module

public import proofs.«01_k».proof.Proof.Rows

@[expose] public section

set_option maxRecDepth 32768

namespace Cert.Rows

open Idealize.ShloMosaic

/-- The keys in upward order ascend. -/
theorem order_mono (key : Fin 16384 → EReal) {i j : Fin 16384} (h : i ≤ j) : key (order key i) ≤ key (order key j) := by
  rcases eq_or_lt_of_le h with rfl | h
  · exact le_refl _
  · have := sortedFrom_noInversion (fun k k' => decide (key k < key k')) (fun k k' => decide (key k < key k'))
      (fun a b hab => by simp only [decide_eq_true_eq, decide_eq_false_iff_not] at *; exact not_lt.mpr hab.le)
      (fun a b hab => hab)
      (fun a b c hab hbc => by
        simp only [decide_eq_false_iff_not, not_lt] at *
        exact hbc.trans hab) i j h
    exact not_lt.mp (of_decide_eq_false this)

/-- Minus infinity, as the programs spell it, is the least extended real. -/
theorem minusInf : (Ideal.ofBits .f32 0xFF800000#32 : EReal) = ⊥ := by
  simp [Ideal.ofBits, Ideal.ieee]

/-- A maximum of 32 values from minus infinity is the value that bounds them all. -/
theorem peak_eq (g : Fin 32 → EReal) (i : Fin 32) (h : ∀ k, g k ≤ g i) :
    max (Ideal.ofBits .f32 0xFF800000#32) (Finset.univ.fold max (Ideal.ofBits .f32 0xFF800000#32) g) = g i := by
  rw [minusInf]
  refine le_antisymm (max_le bot_le ?_) (le_max_of_le_right ?_)
  · exact Finset.fold_max_le _ |>.mpr ⟨bot_le, fun k _ => h k⟩
  · exact Finset.le_fold_max _ |>.mpr (Or.inr ⟨i, Finset.mem_univ _, le_refl _⟩)

/-- A positive query's greatest score over ascending keys is at the last. -/
theorem peak_top (q : EReal) (key : Fin 32 → EReal) (hk : Monotone key) (hq : 0 < q) :
    max (Ideal.ofBits .f32 0xFF800000#32) (Finset.univ.fold max (Ideal.ofBits .f32 0xFF800000#32) (fun k => q * key k)) = q * key 31 :=
  peak_eq (fun k => q * key k) 31 fun k => mul_le_mul_of_nonneg_left (hk (Fin.le_last k)) hq.le

/-- Any other query's greatest score over ascending keys is at the first. -/
theorem peak_bot (q : EReal) (key : Fin 32 → EReal) (hk : Monotone key) (hq : ¬ 0 < q) :
    max (Ideal.ofBits .f32 0xFF800000#32) (Finset.univ.fold max (Ideal.ofBits .f32 0xFF800000#32) (fun k => q * key k)) = q * key 0 := by
  refine peak_eq (fun k => q * key k) 0 fun k => ?_
  have h : -q * key 0 ≤ -q * key k :=
    mul_le_mul_of_nonneg_left (hk (Fin.zero_le k)) (EReal.neg_nonneg.mpr (not_lt.mp hq))
  rw [EReal.neg_mul, EReal.neg_mul, EReal.neg_le_neg_iff] at h
  exact h

/-- The top slots ascend. -/
theorem topSlot_mono {a b : Fin 32} (h : a ≤ b) : topSlot a ≤ topSlot b := by
  rw [Fin.le_def] at h ⊢
  simp only [topSlot]
  omega

/-- The bottom slots ascend. -/
theorem botSlot_mono {a b : Fin 32} (h : a ≤ b) : botSlot a ≤ botSlot b := by
  rw [Fin.le_def] at h ⊢
  simpa only [botSlot] using h

/-- The top keys ascend. -/
theorem keyAt_top_mono (x : Fin 16384 → Fin 512 → EReal) (n : Fin 512 → EReal) (wk : Fin 128 → Fin 512 → EReal) (h : Fin 128) :
    Monotone (fun k => keyAt x n wk h (topSlot k)) := by
  intro a b hab
  simp only [keyAt]
  exact order_mono (proj x n wk h) (topSlot_mono hab)

/-- The bottom keys ascend. -/
theorem keyAt_bot_mono (x : Fin 16384 → Fin 512 → EReal) (n : Fin 512 → EReal) (wk : Fin 128 → Fin 512 → EReal) (h : Fin 128) :
    Monotone (fun k => keyAt x n wk h (botSlot k)) := by
  intro a b hab
  simp only [keyAt]
  exact order_mono (proj x n wk h) (botSlot_mono hab)

end Cert.Rows

end
-- ==== Proof.RefLayer.lean ====
/-
  One layer of the reference read at an index: it is the layer of `Rows` on the whole sequence.
-/
module

public import proofs.«01_k».proof.Proof.RefReads
public import proofs.«01_k».proof.Proof.RefTake
public import proofs.«01_k».proof.Proof.Peak
public import proofs.«01_k».proof.Proof.Order

@[expose] public section

set_option maxRecDepth 16384

namespace Cert.RefReads

open Cert.ReferenceIdeal Cert.ReferenceIdeal.Gen Cert.Layer Cert.Rows Idealize.ShloMosaic

/-- A query or a key. -/
theorem projH_apply (x : FVec Ideal S16384x512 .f32) (n : FVec Ideal S512 .f32) (w : FVec Ideal S128x512 .f32) (h : Fin 128) (s : Fin 16384) :
    projH (rmsH x n) w (ix2 h s) = proj (fun s e => x (ix2 s e)) (fun e => n (ix1 e)) (fun h d => w (ix2 h d)) h s := by
  unfold proj
  simp only [← rmsH_apply]
  pointwise [projH]

/-- A component of a value. -/
theorem valH_apply (x : FVec Ideal S16384x512 .f32) (n : FVec Ideal S512 .f32) (w : FVec Ideal S512x512 .f32) (h : Fin 128) (s : Fin 16384)
    (c : Fin 4) :
    valH (rmsH x n) w (ix3 h s c) = value (fun s e => x (ix2 s e)) (fun e => n (ix1 e)) (fun d e => w (ix2 d e)) h c s := by
  unfold value
  simp only [← rmsH_apply]
  pointwise [valH]
  rfl

/-- A top key. -/
theorem topK_apply (k : FVec Ideal S128x16384 .f32) (h : Fin 128) (j : Fin 32) : topK k (ix2 h j) = k (ix2 h (topSlot j)) := by
  pointwise [topK]
  rfl

/-- A bottom key. -/
theorem botK_apply (k : FVec Ideal S128x16384 .f32) (h : Fin 128) (j : Fin 32) : botK k (ix2 h j) = k (ix2 h (botSlot j)) := by
  pointwise [botK]
  rfl

/-- The value of a top key. -/
theorem topV_apply (v : FVec Ideal S128x16384x4 .f32) (h : Fin 128) (j : Fin 32) (c : Fin 4) :
    topV v (ix3 h j c) = v (ix3 h (topSlot j) c) := by
  pointwise [topV]
  rfl

/-- The value of a bottom key. -/
theorem botV_apply (v : FVec Ideal S128x16384x4 .f32) (h : Fin 128) (j : Fin 32) (c : Fin 4) :
    botV v (ix3 h j c) = v (ix3 h (botSlot j) c) := by
  pointwise [botV]
  rfl

/-- The blend of two numbers by the sign of a third is the one the sign selects. -/
theorem blend_select (q t b : EReal) : (if 0 < q then (1 : EReal) else 0) * t + (1 - (if 0 < q then (1 : EReal) else 0)) * b =
    if 0 < q then t else b := by
  have h11 : (1 : EReal) - 1 = 0 := EReal.sub_self (by decide) (by decide)
  by_cases h : 0 < q
  · simp only [if_pos h, one_mul, h11, zero_mul, add_zero]
  · simp only [if_neg h, zero_mul, sub_zero, one_mul, zero_add]

/-- The attention over keys that ascend within each head: the greatest score is at the last top key for a positive query,
    at the first bottom key for any other. -/
theorem attnH_apply (q keys : FVec Ideal S128x16384 .f32) (vals : FVec Ideal S128x16384x4 .f32) (s : Fin 16384) (e : Fin 512) :
    attnH q keys vals (ix2 s e) = attn (q (ix2 (head e) s))
      (fun k => keys (ix2 (head e) (order (fun s => keys (ix2 (head e) s)) (topSlot k))))
      (fun k => keys (ix2 (head e) (order (fun s => keys (ix2 (head e) s)) (botSlot k))))
      (fun k => vals (ix3 (head e) (order (fun s => keys (ix2 (head e) s)) (topSlot k)) (comp e)))
      (fun k => vals (ix3 (head e) (order (fun s => keys (ix2 (head e) s)) (botSlot k)) (comp e))) := by
  unfold attnH attn
  rw [blend_apply, sign_apply, blend_select]
  have mt : Monotone (fun k => keys (ix2 (head e) (order (fun s => keys (ix2 (head e) s)) (topSlot k)))) :=
    fun a b hab => order_mono (fun s => keys (ix2 (head e) s)) (topSlot_mono hab)
  have mb : Monotone (fun k => keys (ix2 (head e) (order (fun s => keys (ix2 (head e) s)) (botSlot k)))) :=
    fun a b hab => order_mono (fun s => keys (ix2 (head e) s)) (botSlot_mono hab)
  by_cases h : 0 < q (ix2 (head e) s)
  · rw [if_pos h, if_pos h, attend_apply, peak_apply]
    simp only [scores_apply, topK_apply, topV_apply, sortedK_apply, sortedV_apply]
    rw [peak_top _ _ mt h]
  · rw [if_neg h, if_neg h, attend_apply, peak_apply]
    simp only [scores_apply, botK_apply, botV_apply, sortedK_apply, sortedV_apply]
    rw [peak_bot _ _ mb h]

/-- One layer. -/
theorem layerH_apply (x : FVec Ideal S16384x512 .f32) (n1 : FVec Ideal S512 .f32) (wq wk : FVec Ideal S128x512 .f32)
    (wv wo : FVec Ideal S512x512 .f32) (n2 : FVec Ideal S512 .f32) (wg wu : FVec Ideal S1365x512 .f32)
    (wd : FVec Ideal S512x1365 .f32) (s : Fin 16384) (d : Fin 512) :
    layerH x n1 wq wk wv wo n2 wg wu wd (ix2 s d) =
      layerRows (fun s e => x (ix2 s e)) (fun e => n1 (ix1 e)) (fun h d => wq (ix2 h d)) (fun h d => wk (ix2 h d))
        (fun d e => wv (ix2 d e)) (fun d e => wo (ix2 d e)) (fun e => n2 (ix1 e)) (fun h e => wg (ix2 h e))
        (fun h e => wu (ix2 h e)) (fun d h => wd (ix2 d h)) s d := by
  unfold layerH layerRows layer keyAt valueAt
  rw [ffnH_apply]
  refine congrArg (fun y => ffn y _ _ _ _ d) (funext fun e => ?_)
  rw [mixH_apply]
  refine congrArg (fun y => mix _ y _ e) (funext fun e => ?_)
  rw [attnH_apply]
  simp only [projH_apply, valH_apply]

end Cert.RefReads

end
-- ==== Proof.RefLayers.lean ====
/-
  The reference, layer by layer: each of its two layers is the whole-array layer function at its own arguments.
-/
module

public import proofs.«01_k».proof.Proof.Gen.ReferenceIdeal.Read
public import proofs.«01_k».proof.Proof.Layer

@[expose] public section

namespace Cert.RefLayers

open Cert.ReferenceIdeal Cert.ReferenceIdeal.Gen Cert.ReferenceIdeal.Read Cert.Layer Idealize.ShloMosaic

/-- The normalised rows of layer 1. -/
theorem norm1 (x0 : IVec S1x16384 32) (x2 : FVec Ideal S256x512 .f32) (x3 : FVec Ideal S64x512 .f32) (x4 : FVec Ideal S256x512 .f32) (x5 : FVec Ideal S512 .f32) :
    val_main_v27 (F := Ideal) x0 x2 x3 x4 x5 =
      rmsH (val_main_v14 (F := Ideal) x0 x2 x3 x4) x5 := rfl

/-- The queries of layer 1. -/
theorem query1 (x0 : IVec S1x16384 32) (x2 : FVec Ideal S256x512 .f32) (x3 : FVec Ideal S64x512 .f32) (x4 : FVec Ideal S256x512 .f32) (x5 : FVec Ideal S512 .f32) (x6 : FVec Ideal S128x512 .f32) :
    val_main_v28 (F := Ideal) x0 x2 x3 x4 x5 x6 =
      projH (val_main_v27 (F := Ideal) x0 x2 x3 x4 x5) x6 := rfl

/-- The keys of layer 1. -/
theorem keys1 (x0 : IVec S1x16384 32) (x2 : FVec Ideal S256x512 .f32) (x3 : FVec Ideal S64x512 .f32) (x4 : FVec Ideal S256x512 .f32) (x5 : FVec Ideal S512 .f32) (x7 : FVec Ideal S128x512 .f32) :
    val_main_v29 (F := Ideal) x0 x2 x3 x4 x5 x7 =
      projH (val_main_v27 (F := Ideal) x0 x2 x3 x4 x5) x7 := rfl

/-- The values of layer 1. -/
theorem vals1 (x0 : IVec S1x16384 32) (x2 : FVec Ideal S256x512 .f32) (x3 : FVec Ideal S64x512 .f32) (x4 : FVec Ideal S256x512 .f32) (x5 : FVec Ideal S512 .f32) (x8 : FVec Ideal S512x512 .f32) :
    val_main_v33 (F := Ideal) x0 x2 x3 x4 x5 x8 =
      valH (val_main_v27 (F := Ideal) x0 x2 x3 x4 x5) x8 := rfl

/-- The order of the keys of layer 1. -/
theorem order1 (x0 : IVec S1x16384 32) (x2 : FVec Ideal S256x512 .f32) (x3 : FVec Ideal S64x512 .f32) (x4 : FVec Ideal S256x512 .f32) (x5 : FVec Ideal S512 .f32) (x7 : FVec Ideal S128x512 .f32) :
    val_main_v34 (F := Ideal) x0 x2 x3 x4 x5 x7 =
      orderH (val_main_v29 (F := Ideal) x0 x2 x3 x4 x5 x7) := rfl

/-- The sorted keys of layer 1. -/
theorem sortedK1 (x0 : IVec S1x16384 32) (x2 : FVec Ideal S256x512 .f32) (x3 : FVec Ideal S64x512 .f32) (x4 : FVec Ideal S256x512 .f32) (x5 : FVec Ideal S512 .f32) (x7 : FVec Ideal S128x512 .f32) :
    val_main_v35 (F := Ideal) x0 x2 x3 x4 x5 x7 =
      takeK (val_main_v29 (F := Ideal) x0 x2 x3 x4 x5 x7) (val_main_v34 (F := Ideal) x0 x2 x3 x4 x5 x7) := rfl

/-- The sorted values of layer 1. -/
theorem sortedV1 (x0 : IVec S1x16384 32) (x2 : FVec Ideal S256x512 .f32) (x3 : FVec Ideal S64x512 .f32) (x4 : FVec Ideal S256x512 .f32) (x5 : FVec Ideal S512 .f32) (x7 : FVec Ideal S128x512 .f32) (x8 : FVec Ideal S512x512 .f32) :
    val_main_v37 (F := Ideal) x0 x2 x3 x4 x5 x7 x8 =
      takeV (val_main_v33 (F := Ideal) x0 x2 x3 x4 x5 x8) (broadcastInDim S128x16384x1 ![0, 1] bcast_S128x16384_S128x16384x1_0_1 (val_main_v34 (F := Ideal) x0 x2 x3 x4 x5 x7)) := rfl

/-- Attention over the top keys in layer 1. -/
theorem top1 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) :
    val_main_v74 (F := Ideal) x0 x2 x3 x4 x5 x6 x7 x8 =
      attend (val_main_v28 (F := Ideal) x0 x2 x3 x4 x5 x6) (topK (val_main_v35 (F := Ideal) x0 x2 x3 x4 x5 x7)) (topV (val_main_v37 (F := Ideal) x0 x2 x3 x4 x5 x7 x8)) := rfl

/-- Attention over the bottom keys in layer 1. -/
theorem bot1 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) :
    val_main_v75 (F := Ideal) x0 x2 x3 x4 x5 x6 x7 x8 =
      attend (val_main_v28 (F := Ideal) x0 x2 x3 x4 x5 x6) (botK (val_main_v35 (F := Ideal) x0 x2 x3 x4 x5 x7)) (botV (val_main_v37 (F := Ideal) x0 x2 x3 x4 x5 x7 x8)) := rfl

/-- The blended attention of layer 1. -/
theorem attn1 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) :
    val_main_v88 (F := Ideal) x0 x2 x3 x4 x5 x6 x7 x8 =
      blend (val_main_v28 (F := Ideal) x0 x2 x3 x4 x5 x6) (val_main_v74 (F := Ideal) x0 x2 x3 x4 x5 x6 x7 x8) (val_main_v75 (F := Ideal) x0 x2 x3 x4 x5 x6 x7 x8) := rfl

/-- The rows of layer 1 with their attention output. -/
theorem mix1 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) :
    val_main_v91 (F := Ideal) x0 x2 x3 x4 x5 x6 x7 x8 x9 =
      mixH (val_main_v14 (F := Ideal) x0 x2 x3 x4) (val_main_v88 (F := Ideal) x0 x2 x3 x4 x5 x6 x7 x8) x9 := rfl

/-- The rows that leave layer 1. -/
theorem ffn1 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) :
    val_main_v113 (F := Ideal) x0 x2 x3 x4 x5 x6 x7 x8 x9 x10 x11 x12 x13 =
      ffnH (val_main_v91 (F := Ideal) x0 x2 x3 x4 x5 x6 x7 x8 x9) x10 x11 x12 x13 := rfl

/-- Layer 1 of the reference is the whole-array layer at its arguments. -/
theorem layer1 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) :
    val_main_v113 (F := Ideal) x0 x2 x3 x4 x5 x6 x7 x8 x9 x10 x11 x12 x13 =
      layerH (val_main_v14 (F := Ideal) x0 x2 x3 x4) x5 x6 x7 x8 x9 x10 x11 x12 x13 := by
  rw [ffn1, mix1, attn1, top1, bot1, sortedK1, sortedV1, order1, query1, keys1, vals1, norm1]
  rfl

/-- The normalised rows of layer 2. -/
theorem norm2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) :
    val_main_v126 (F := Ideal) x0 x2 x3 x4 x5 x6 x7 x8 x9 x10 x11 x12 x13 x14 =
      rmsH (val_main_v113 (F := Ideal) x0 x2 x3 x4 x5 x6 x7 x8 x9 x10 x11 x12 x13) x14 := rfl

/-- The queries of layer 2. -/
theorem query2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) :
    val_main_v127 (F := Ideal) x0 x2 x3 x4 x5 x6 x7 x8 x9 x10 x11 x12 x13 x14 x15 =
      projH (val_main_v126 (F := Ideal) x0 x2 x3 x4 x5 x6 x7 x8 x9 x10 x11 x12 x13 x14) x15 := rfl

/-- The keys of layer 2. -/
theorem keys2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x16 : FVec Ideal S128x512 .f32) :
    val_main_v128 (F := Ideal) x0 x2 x3 x4 x5 x6 x7 x8 x9 x10 x11 x12 x13 x14 x16 =
      projH (val_main_v126 (F := Ideal) x0 x2 x3 x4 x5 x6 x7 x8 x9 x10 x11 x12 x13 x14) x16 := rfl

/-- The values of layer 2. -/
theorem vals2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x17 : FVec Ideal S512x512 .f32) :
    val_main_v132 (F := Ideal) x0 x2 x3 x4 x5 x6 x7 x8 x9 x10 x11 x12 x13 x14 x17 =
      valH (val_main_v126 (F := Ideal) x0 x2 x3 x4 x5 x6 x7 x8 x9 x10 x11 x12 x13 x14) x17 := rfl

/-- The order of the keys of layer 2. -/
theorem order2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x16 : FVec Ideal S128x512 .f32) :
    val_main_v133 (F := Ideal) x0 x2 x3 x4 x5 x6 x7 x8 x9 x10 x11 x12 x13 x14 x16 =
      orderH (val_main_v128 (F := Ideal) x0 x2 x3 x4 x5 x6 x7 x8 x9 x10 x11 x12 x13 x14 x16) := rfl

/-- The sorted keys of layer 2. -/
theorem sortedK2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x16 : FVec Ideal S128x512 .f32) :
    val_main_v134 (F := Ideal) x0 x2 x3 x4 x5 x6 x7 x8 x9 x10 x11 x12 x13 x14 x16 =
      takeK (val_main_v128 (F := Ideal) x0 x2 x3 x4 x5 x6 x7 x8 x9 x10 x11 x12 x13 x14 x16) (val_main_v133 (F := Ideal) x0 x2 x3 x4 x5 x6 x7 x8 x9 x10 x11 x12 x13 x14 x16) := rfl

/-- The sorted values of layer 2. -/
theorem sortedV2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x16 : FVec Ideal S128x512 .f32) (x17 : FVec Ideal S512x512 .f32) :
    val_main_v136 (F := Ideal) x0 x2 x3 x4 x5 x6 x7 x8 x9 x10 x11 x12 x13 x14 x16 x17 =
      takeV (val_main_v132 (F := Ideal) x0 x2 x3 x4 x5 x6 x7 x8 x9 x10 x11 x12 x13 x14 x17) (broadcastInDim S128x16384x1 ![0, 1] bcast_S128x16384_S128x16384x1_0_1 (val_main_v133 (F := Ideal) x0 x2 x3 x4 x5 x6 x7 x8 x9 x10 x11 x12 x13 x14 x16)) := rfl

/-- Attention over the top keys in layer 2. -/
theorem top2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) (x16 : FVec Ideal S128x512 .f32) (x17 : FVec Ideal S512x512 .f32) :
    val_main_v173 (F := Ideal) x0 x2 x3 x4 x5 x6 x7 x8 x9 x10 x11 x12 x13 x14 x15 x16 x17 =
      attend (val_main_v127 (F := Ideal) x0 x2 x3 x4 x5 x6 x7 x8 x9 x10 x11 x12 x13 x14 x15) (topK (val_main_v134 (F := Ideal) x0 x2 x3 x4 x5 x6 x7 x8 x9 x10 x11 x12 x13 x14 x16)) (topV (val_main_v136 (F := Ideal) x0 x2 x3 x4 x5 x6 x7 x8 x9 x10 x11 x12 x13 x14 x16 x17)) := rfl

/-- Attention over the bottom keys in layer 2. -/
theorem bot2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) (x16 : FVec Ideal S128x512 .f32) (x17 : FVec Ideal S512x512 .f32) :
    val_main_v174 (F := Ideal) x0 x2 x3 x4 x5 x6 x7 x8 x9 x10 x11 x12 x13 x14 x15 x16 x17 =
      attend (val_main_v127 (F := Ideal) x0 x2 x3 x4 x5 x6 x7 x8 x9 x10 x11 x12 x13 x14 x15) (botK (val_main_v134 (F := Ideal) x0 x2 x3 x4 x5 x6 x7 x8 x9 x10 x11 x12 x13 x14 x16)) (botV (val_main_v136 (F := Ideal) x0 x2 x3 x4 x5 x6 x7 x8 x9 x10 x11 x12 x13 x14 x16 x17)) := rfl

/-- The blended attention of layer 2. -/
theorem attn2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) (x16 : FVec Ideal S128x512 .f32) (x17 : FVec Ideal S512x512 .f32) :
    val_main_v187 (F := Ideal) x0 x2 x3 x4 x5 x6 x7 x8 x9 x10 x11 x12 x13 x14 x15 x16 x17 =
      blend (val_main_v127 (F := Ideal) x0 x2 x3 x4 x5 x6 x7 x8 x9 x10 x11 x12 x13 x14 x15) (val_main_v173 (F := Ideal) x0 x2 x3 x4 x5 x6 x7 x8 x9 x10 x11 x12 x13 x14 x15 x16 x17) (val_main_v174 (F := Ideal) x0 x2 x3 x4 x5 x6 x7 x8 x9 x10 x11 x12 x13 x14 x15 x16 x17) := rfl

/-- The rows of layer 2 with their attention output. -/
theorem mix2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) (x16 : FVec Ideal S128x512 .f32) (x17 : FVec Ideal S512x512 .f32) (x18 : FVec Ideal S512x512 .f32) :
    val_main_v190 (F := Ideal) x0 x2 x3 x4 x5 x6 x7 x8 x9 x10 x11 x12 x13 x14 x15 x16 x17 x18 =
      mixH (val_main_v113 (F := Ideal) x0 x2 x3 x4 x5 x6 x7 x8 x9 x10 x11 x12 x13) (val_main_v187 (F := Ideal) x0 x2 x3 x4 x5 x6 x7 x8 x9 x10 x11 x12 x13 x14 x15 x16 x17) x18 := rfl

/-- The rows that leave layer 2. -/
theorem ffn2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) (x16 : FVec Ideal S128x512 .f32) (x17 : FVec Ideal S512x512 .f32) (x18 : FVec Ideal S512x512 .f32) (x19 : FVec Ideal S512 .f32) (x20 : FVec Ideal S1365x512 .f32) (x21 : FVec Ideal S1365x512 .f32) (x22 : FVec Ideal S512x1365 .f32) :
    val_main_v212 (F := Ideal) x0 x2 x3 x4 x5 x6 x7 x8 x9 x10 x11 x12 x13 x14 x15 x16 x17 x18 x19 x20 x21 x22 =
      ffnH (val_main_v190 (F := Ideal) x0 x2 x3 x4 x5 x6 x7 x8 x9 x10 x11 x12 x13 x14 x15 x16 x17 x18) x19 x20 x21 x22 := rfl

/-- Layer 2 of the reference is the whole-array layer at its arguments. -/
theorem layer2 (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) (x16 : FVec Ideal S128x512 .f32) (x17 : FVec Ideal S512x512 .f32) (x18 : FVec Ideal S512x512 .f32) (x19 : FVec Ideal S512 .f32) (x20 : FVec Ideal S1365x512 .f32) (x21 : FVec Ideal S1365x512 .f32) (x22 : FVec Ideal S512x1365 .f32) :
    val_main_v212 (F := Ideal) x0 x2 x3 x4 x5 x6 x7 x8 x9 x10 x11 x12 x13 x14 x15 x16 x17 x18 x19 x20 x21 x22 =
      layerH (val_main_v113 (F := Ideal) x0 x2 x3 x4 x5 x6 x7 x8 x9 x10 x11 x12 x13) x14 x15 x16 x17 x18 x19 x20 x21 x22 := by
  rw [ffn2, mix2, attn2, top2, bot2, sortedK2, sortedV2, order2, query2, keys2, vals2, norm2]
  rfl

/-- The reference's result: two layers over the embedded rows and the last projection. -/
theorem last (x0 : IVec S1x16384 32) (x2 : FVec Ideal S256x512 .f32) (x3 : FVec Ideal S64x512 .f32) (x4 : FVec Ideal S256x512 .f32) (x5 : FVec Ideal S512 .f32) (x6 : FVec Ideal S128x512 .f32) (x7 : FVec Ideal S128x512 .f32) (x8 : FVec Ideal S512x512 .f32) (x9 : FVec Ideal S512x512 .f32) (x10 : FVec Ideal S512 .f32) (x11 : FVec Ideal S1365x512 .f32) (x12 : FVec Ideal S1365x512 .f32) (x13 : FVec Ideal S512x1365 .f32) (x14 : FVec Ideal S512 .f32) (x15 : FVec Ideal S128x512 .f32) (x16 : FVec Ideal S128x512 .f32) (x17 : FVec Ideal S512x512 .f32) (x18 : FVec Ideal S512x512 .f32) (x19 : FVec Ideal S512 .f32) (x20 : FVec Ideal S1365x512 .f32) (x21 : FVec Ideal S1365x512 .f32) (x22 : FVec Ideal S512x1365 .f32) (x23 : FVec Ideal S512 .f32) (x24 : FVec Ideal S256x512 .f32) :
    val_main_v228 (F := Ideal) x0 x2 x3 x4 x5 x6 x7 x8 x9 x10 x11 x12 x13 x14 x15 x16 x17 x18 x19 x20 x21 x22 x23 x24 =
      finalH (layerH (layerH (val_main_v14 (F := Ideal) x0 x2 x3 x4) x5 x6 x7 x8 x9 x10 x11 x12 x13) x14 x15 x16 x17 x18 x19 x20 x21 x22) x23 x24 := by
  rw [← layer1 x0 x2 x3 x4 x5 x6 x7 x8 x9 x10 x11 x12 x13, ← layer2 x0 x2 x3 x4 x5 x6 x7 x8 x9 x10 x11 x12 x13 x14 x15 x16 x17 x18 x19 x20 x21 x22]
  rfl

end Cert.RefLayers

end
-- ==== Proof.Model.lean ====
/-
  The whole program as one function of plain functions: embedding, two layers, logits.
-/
module

public import proofs.«01_k».proof.Proof.Embed

@[expose] public section

noncomputable section

namespace Cert.Rows

/-- The logits at a position. -/
def model (x0 : Fin 16384 → BitVec 32) (x2 : Fin 256 → Fin 512 → EReal) (x3 : Fin 64 → Fin 512 → EReal)
    (x4 : Fin 256 → Fin 512 → EReal) (x5 : Fin 512 → EReal) (x6 : Fin 128 → Fin 512 → EReal)
    (x7 : Fin 128 → Fin 512 → EReal) (x8 : Fin 512 → Fin 512 → EReal) (x9 : Fin 512 → Fin 512 → EReal)
    (x10 : Fin 512 → EReal) (x11 : Fin 1365 → Fin 512 → EReal) (x12 : Fin 1365 → Fin 512 → EReal)
    (x13 : Fin 512 → Fin 1365 → EReal) (x14 : Fin 512 → EReal) (x15 : Fin 128 → Fin 512 → EReal)
    (x16 : Fin 128 → Fin 512 → EReal) (x17 : Fin 512 → Fin 512 → EReal) (x18 : Fin 512 → Fin 512 → EReal)
    (x19 : Fin 512 → EReal) (x20 : Fin 1365 → Fin 512 → EReal) (x21 : Fin 1365 → Fin 512 → EReal)
    (x22 : Fin 512 → Fin 1365 → EReal) (x23 : Fin 512 → EReal) (x24 : Fin 256 → Fin 512 → EReal) (s : Fin 16384) (o : Fin 256) : EReal :=
  final (layerRows (layerRows (embed x0 x2 x3 x4) x5 x6 x7 x8 x9 x10 x11 x12 x13) x14 x15 x16 x17 x18 x19 x20 x21 x22 s)
    x23 (fun e o => x24 o e) o

end Cert.Rows

end
-- ==== Proof.RefResult.lean ====
/-
  The reference's result at an index.
-/
module

public import proofs.«01_k».proof.Proof.RefEmbed
public import proofs.«01_k».proof.Proof.RefLayer
public import proofs.«01_k».proof.Proof.RefLayers
public import proofs.«01_k».proof.Proof.Model

@[expose] public section

set_option maxRecDepth 16384

namespace Cert.RefResult

open Cert.ReferenceIdeal Cert.ReferenceIdeal.Gen Cert.ReferenceIdeal.Read Cert.Layer Cert.Rows Cert.RefReads Cert.RefEmbed
open Cert.RefLayers Idealize.ShloMosaic

/-- A layer of rows that are known at every index. -/
theorem layer_of (x : FVec Ideal S16384x512 .f32) (X : Fin 16384 → Fin 512 → EReal) (hx : ∀ s e, x (ix2 s e) = X s e)
    (x5 : FVec Ideal S512 .f32) (x6 : FVec Ideal S128x512 .f32) (x7 : FVec Ideal S128x512 .f32) (x8 : FVec Ideal S512x512 .f32)
    (x9 : FVec Ideal S512x512 .f32) (x10 : FVec Ideal S512 .f32) (x11 : FVec Ideal S1365x512 .f32) (x12 : FVec Ideal S1365x512 .f32) (x13 : FVec Ideal S512x1365 .f32) (s : Fin 16384) (d : Fin 512) :
    layerH x x5 x6 x7 x8 x9 x10 x11 x12 x13 (ix2 s d) = layerRows X (fun e => x5 (ix1 e)) (fun a b => x6 (ix2 a b)) (fun a b => x7 (ix2 a b)) (fun a b => x8 (ix2 a b)) (fun a b => x9 (ix2 a b)) (fun e => x10 (ix1 e)) (fun a b => x11 (ix2 a b)) (fun a b => x12 (ix2 a b)) (fun a b => x13 (ix2 a b)) s d :=
  (layerH_apply x x5 x6 x7 x8 x9 x10 x11 x12 x13 s d).trans
    (congrArg (fun x => layerRows x (fun e => x5 (ix1 e)) (fun a b => x6 (ix2 a b)) (fun a b => x7 (ix2 a b)) (fun a b => x8 (ix2 a b)) (fun a b => x9 (ix2 a b)) (fun e => x10 (ix1 e)) (fun a b => x11 (ix2 a b)) (fun a b => x12 (ix2 a b)) (fun a b => x13 (ix2 a b)) s d)
      (funext fun s => funext fun e => hx s e))

/-- The reference's logits are the model's. -/
theorem result_apply (x0 : IVec S1x16384 32) (x2 : FVec Ideal S256x512 .f32) (x3 : FVec Ideal S64x512 .f32) (x4 : FVec Ideal S256x512 .f32)
    (x5 : FVec Ideal S512 .f32) (x6 : FVec Ideal S128x512 .f32) (x7 : FVec Ideal S128x512 .f32) (x8 : FVec Ideal S512x512 .f32)
    (x9 : FVec Ideal S512x512 .f32) (x10 : FVec Ideal S512 .f32) (x11 : FVec Ideal S1365x512 .f32) (x12 : FVec Ideal S1365x512 .f32)
    (x13 : FVec Ideal S512x1365 .f32) (x14 : FVec Ideal S512 .f32) (x15 : FVec Ideal S128x512 .f32) (x16 : FVec Ideal S128x512 .f32)
    (x17 : FVec Ideal S512x512 .f32) (x18 : FVec Ideal S512x512 .f32) (x19 : FVec Ideal S512 .f32) (x20 : FVec Ideal S1365x512 .f32)
    (x21 : FVec Ideal S1365x512 .f32) (x22 : FVec Ideal S512x1365 .f32) (x23 : FVec Ideal S512 .f32) (x24 : FVec Ideal S256x512 .f32) (s : Fin 16384) (o : Fin 256) :
    val_main_v228 (F := Ideal) x0 x2 x3 x4 x5 x6 x7 x8 x9 x10 x11 x12 x13 x14 x15 x16 x17 x18 x19 x20 x21 x22 x23 x24 (ix3 0 s o) =
      model (fun s => x0 (ix2 0 s)) (fun a b => x2 (ix2 a b)) (fun a b => x3 (ix2 a b)) (fun a b => x4 (ix2 a b)) (fun e => x5 (ix1 e))
      (fun a b => x6 (ix2 a b)) (fun a b => x7 (ix2 a b)) (fun a b => x8 (ix2 a b)) (fun a b => x9 (ix2 a b)) (fun e => x10 (ix1 e))
      (fun a b => x11 (ix2 a b)) (fun a b => x12 (ix2 a b)) (fun a b => x13 (ix2 a b)) (fun e => x14 (ix1 e)) (fun a b => x15 (ix2 a b))
      (fun a b => x16 (ix2 a b)) (fun a b => x17 (ix2 a b)) (fun a b => x18 (ix2 a b)) (fun e => x19 (ix1 e)) (fun a b => x20 (ix2 a b))
      (fun a b => x21 (ix2 a b)) (fun a b => x22 (ix2 a b)) (fun e => x23 (ix1 e)) (fun a b => x24 (ix2 a b)) s o := by
  rw [last]
  refine (finalH_apply _ x23 x24 s o).trans ?_
  exact congrArg (fun x => final x (fun e => x23 (ix1 e)) (fun e o => x24 (ix2 o e)) o)
    (funext fun e => layer_of _ _ (fun s e => layer_of _ _ (fun s e => embedH_apply x0 x2 x3 x4 s e) x5 x6 x7 x8 x9 x10 x11 x12 x13 s e) x14 x15 x16 x17 x18 x19 x20 x21 x22 s e)

end Cert.RefResult
-- ==== Proof.KerEmbed.lean ====
/-
  The kernel's embedding read at an index.
-/
module

public import proofs.«01_k».proof.Proof.KerLayer
public import proofs.«01_k».proof.Proof.Embed
public import Idealize.ShloMosaic.Lib.ReduceAll

@[expose] public section

set_option maxRecDepth 16384

namespace Cert.KerEmbed

open Cert.KernelIdeal Cert.KernelIdeal.Gen Cert.KerLayer Cert.Rows Idealize.ShloMosaic

/-- The gather of one component of a byte's row. -/
theorem gatherE_apply (x : FVec Ideal S256x512 .f32) (idx : IVec S1x16384x1 32) (s : Fin 16384) (d : Fin 512) :
    Host.gather gather_S256x512_S1x16384x1_S1x16384x512_2_0_n_n_0_2_1512 x idx (ix3 0 s d) =
      x (ix2 ⟨min (idx (ix3 0 s 0)).toInt.toNat (256 - 1), by omega⟩ d) := by
  unfold Host.gather
  congr 1
  funext a
  refine Fin.ext ?_
  generalize hd : gather_S256x512_S1x16384x1_S1x16384x512_2_0_n_n_0_2_1512 = g
  show g.start (ix3 0 s d) idx a + g.batchCoord (ix3 0 s d) a + g.offCoord (ix3 0 s d) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S256x512_S1x16384x1_S1x16384x512_2_0_n_n_0_2_1512] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x512_S1x16384x1_S1x16384x512_2_0_n_n_0_2_1512.startIndexMap from List.mem_singleton.mpr rfl)]
    have hsi : gather_S256x512_S1x16384x1_S1x16384x512_2_0_n_n_0_2_1512.siIdx (ix3 0 s d)
        ⟨List.idxOf (0 : Fin 2) gather_S256x512_S1x16384x1_S1x16384x512_2_0_n_n_0_2_1512.startIndexMap,
        List.idxOf_lt_length_iff.2 (List.mem_singleton.mpr rfl)⟩ = ix3 0 s 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp [gather_S256x512_S1x16384x1_S1x16384x512_2_0_n_n_0_2_1512] at h)]
    unfold GatherDims.start
    rw [dif_neg (by simp [gather_S256x512_S1x16384x1_S1x16384x512_2_0_n_n_0_2_1512])]
    simp only [Nat.zero_add]
    unfold GatherDims.offCoord
    rw [dif_pos ((GatherDims.mem_sKept _ _).mpr (by simp [gather_S256x512_S1x16384x1_S1x16384x512_2_0_n_n_0_2_1512]))]
    rfl

/-- The byte, wrapped round, that the gather reads. -/
theorem byte_apply (t : IVec S1x16384 32) (s : Fin 16384) :
    broadcastInDim S1x16384x1 ![0, 1] bcast_S1x16384_S1x16384x1_0_1
      (select (cmpi .slt t (broadcastInDim S1x16384 ![] bcast_S_S1x16384 (constantI S_ 32 0#32)))
        (addi t (broadcastInDim S1x16384 ![] bcast_S_S1x16384 (constantI S_ 32 256#32))) t) (ix3 0 s 0) = wrapByte (t (ix2 0 s)) := by
  unfold wrapByte
  pointwise

/-- The rows of the blocks, one per position. -/
theorem block_apply (bp : FVec Ideal S64x512 .f32) (s : Fin 16384) (d : Fin 512) :
    broadcastInDim S1x16384x512 ![1, 2] bcast_S16384x512_S1x16384x512_1_2
      (shapeCast S16384x512 (broadcastInDim S64x256x512 ![0, 2] bcast_S64x512_S64x256x512_0_2 bp) shapeCasts_S64x256x512_S16384x512)
      (ix3 0 s d) = bp (ix2 (blockOf s) d) := by
  pointwise
  rfl

/-- The rows of the places in a block, one per position. -/
theorem local_apply (lp : FVec Ideal S256x512 .f32) (s : Fin 16384) (d : Fin 512) :
    broadcastInDim S1x16384x512 ![1, 2] bcast_S16384x512_S1x16384x512_1_2
      (shapeCast S16384x512 (broadcastInDim S64x256x1x512 ![0, 1, 2, 3] bcast_S1x256x1x512_S64x256x1x512_0_1_2_3
        (shapeCast S1x256x1x512 lp shapeCasts_S256x512_S1x256x1x512)) shapeCasts_S64x256x1x512_S16384x512)
      (ix3 0 s d) = lp (ix2 (localOf s) d) := by
  pointwise
  rfl

/-- The embedded rows. -/
theorem embedK_apply (t : IVec S1x16384 32) (e : FVec Ideal S256x512 .f32) (bp : FVec Ideal S64x512 .f32)
    (lp : FVec Ideal S256x512 .f32) (s : Fin 16384) (d : Fin 512) : embedK t e bp lp (ix3 0 s d) =
      embed (fun s => t (ix2 0 s)) (fun k d => e (ix2 k d)) (fun k d => bp (ix2 k d)) (fun k d => lp (ix2 k d)) s d := by
  have h1 := gatherE_apply e (broadcastInDim S1x16384x1 ![0, 1] bcast_S1x16384_S1x16384x1_0_1
      (select (cmpi .slt t (broadcastInDim S1x16384 ![] bcast_S_S1x16384 (constantI S_ 32 0#32)))
        (addi t (broadcastInDim S1x16384 ![] bcast_S_S1x16384 (constantI S_ 32 256#32))) t)) s d
  have hb := byte_apply t s
  have h2 := block_apply bp s d
  have h3 := local_apply lp s d
  unfold embedK
  generalize broadcastInDim S1x16384x1 ![0, 1] bcast_S1x16384_S1x16384x1_0_1
      (select (cmpi .slt t (broadcastInDim S1x16384 ![] bcast_S_S1x16384 (constantI S_ 32 0#32)))
        (addi t (broadcastInDim S1x16384 ![] bcast_S_S1x16384 (constantI S_ 32 256#32))) t) = w at h1 hb ⊢
  refine (congrArg₂ (· + ·) (congrArg₂ (· + ·) (h1.trans ?_) h2) h3)
  refine congrArg (fun k : Fin 256 => e (ix2 k d)) (Fin.ext ?_)
  show min (w (ix3 0 s 0)).toInt.toNat (256 - 1) = min (wrapByte (t (ix2 0 s))).toInt.toNat (256 - 1)
  rw [hb]

end Cert.KerEmbed
-- ==== Proof.KerResult.lean ====
/-
  The kernel's result at an index.
-/
module

public import proofs.«01_k».proof.Proof.KerEmbed
public import proofs.«01_k».proof.Proof.KerRows
public import proofs.«01_k».proof.Proof.Region2
public import proofs.«01_k».proof.Proof.Model

@[expose] public section

set_option maxRecDepth 16384

namespace Cert.KerResult

open Cert.KernelIdeal Cert.KernelIdeal.Gen Cert.KerLayer Cert.KerReads Cert.KerRows Cert.KerEmbed Cert.Rows Idealize.ShloMosaic

/-- A layer of rows that are known at every index. -/
theorem layer_of (x : FVec Ideal S1x16384x512 .f32) (X : Fin 16384 → Fin 512 → EReal) (hx : ∀ s e, x (ix3 0 s e) = X s e)
    (x5 : FVec Ideal S512 .f32) (x6 : FVec Ideal S128x512 .f32) (x7 : FVec Ideal S128x512 .f32) (x8 : FVec Ideal S512x512 .f32)
    (x9 : FVec Ideal S512x512 .f32) (x10 : FVec Ideal S512 .f32) (x11 : FVec Ideal S1365x512 .f32) (x12 : FVec Ideal S1365x512 .f32) (x13 : FVec Ideal S512x1365 .f32) (s : Fin 16384) (d : Fin 512) :
    layerK x x5 x6 x7 x8 x9 x10 x11 x12 x13 (ix2 s d) = layerRows X (fun e => x5 (ix1 e)) (fun a b => x6 (ix2 a b)) (fun a b => x7 (ix2 a b)) (fun a b => x8 (ix2 a b)) (fun a b => x9 (ix2 a b)) (fun e => x10 (ix1 e)) (fun a b => x11 (ix2 a b)) (fun a b => x12 (ix2 a b)) (fun a b => x13 (ix2 a b)) s d :=
  (layerK_apply x x5 x6 x7 x8 x9 x10 x11 x12 x13 s d).trans
    (congrArg (fun x => layerRows x (fun e => x5 (ix1 e)) (fun a b => x6 (ix2 a b)) (fun a b => x7 (ix2 a b)) (fun a b => x8 (ix2 a b)) (fun a b => x9 (ix2 a b)) (fun e => x10 (ix1 e)) (fun a b => x11 (ix2 a b)) (fun a b => x12 (ix2 a b)) (fun a b => x13 (ix2 a b)) s d)
      (funext fun s => funext fun e => hx s e))

/-- The result with its leading axis. -/
theorem lead_apply (y : FVec Ideal S16384x256 .f32) (s : Fin 16384) (o : Fin 256) :
    shapeCast S1x16384x256 y shapeCasts_S16384x256_S1x16384x256 (ix3 0 s o) = y (ix2 s o) := by
  pointwise

/-- The logits of rows that are known at every index. -/
theorem logits_of (x : FVec Ideal S16384x512 .f32) (X : Fin 16384 → Fin 512 → EReal) (hx : ∀ s e, x (ix2 s e) = X s e)
    (n : FVec Ideal S512 .f32) (w : FVec Ideal S256x512 .f32) (s : Fin 16384) (o : Fin 256) :
    Cert.Region2.G x n (transpose S512x256 [1, 0] w transposes_S256x512_S512x256_1_0) (ix2 s o) =
      final (X s) (fun e => n (ix1 e)) (fun e o => w (ix2 o e)) o :=
  congrArg₂ (fun x w => final x (fun e => n (ix1 e)) w o) (funext fun e => hx s e) (funext fun e => funext fun o => turnL w e o)

/-- The kernel's logits are the model's. -/
theorem result_apply (x0 : IVec S1x16384 32) (x2 : FVec Ideal S256x512 .f32) (x3 : FVec Ideal S64x512 .f32) (x4 : FVec Ideal S256x512 .f32)
    (x5 : FVec Ideal S512 .f32) (x6 : FVec Ideal S128x512 .f32) (x7 : FVec Ideal S128x512 .f32) (x8 : FVec Ideal S512x512 .f32)
    (x9 : FVec Ideal S512x512 .f32) (x10 : FVec Ideal S512 .f32) (x11 : FVec Ideal S1365x512 .f32) (x12 : FVec Ideal S1365x512 .f32)
    (x13 : FVec Ideal S512x1365 .f32) (x14 : FVec Ideal S512 .f32) (x15 : FVec Ideal S128x512 .f32) (x16 : FVec Ideal S128x512 .f32)
    (x17 : FVec Ideal S512x512 .f32) (x18 : FVec Ideal S512x512 .f32) (x19 : FVec Ideal S512 .f32) (x20 : FVec Ideal S1365x512 .f32)
    (x21 : FVec Ideal S1365x512 .f32) (x22 : FVec Ideal S512x1365 .f32) (x23 : FVec Ideal S512 .f32) (x24 : FVec Ideal S256x512 .f32) (s : Fin 16384) (o : Fin 256) :
    shapeCast S1x16384x256 (Cert.Region2.G (rowsX (liftX (layerK (liftX (layerK (embedK x0 x2 x3 x4) x5 x6 x7 x8 x9 x10 x11 x12 x13))
        x14 x15 x16 x17 x18 x19 x20 x21 x22))) x23
      (transpose S512x256 [1, 0] x24 transposes_S256x512_S512x256_1_0)) shapeCasts_S16384x256_S1x16384x256 (ix3 0 s o) =
      model (fun s => x0 (ix2 0 s)) (fun a b => x2 (ix2 a b)) (fun a b => x3 (ix2 a b)) (fun a b => x4 (ix2 a b)) (fun e => x5 (ix1 e))
      (fun a b => x6 (ix2 a b)) (fun a b => x7 (ix2 a b)) (fun a b => x8 (ix2 a b)) (fun a b => x9 (ix2 a b)) (fun e => x10 (ix1 e))
      (fun a b => x11 (ix2 a b)) (fun a b => x12 (ix2 a b)) (fun a b => x13 (ix2 a b)) (fun e => x14 (ix1 e)) (fun a b => x15 (ix2 a b))
      (fun a b => x16 (ix2 a b)) (fun a b => x17 (ix2 a b)) (fun a b => x18 (ix2 a b)) (fun e => x19 (ix1 e)) (fun a b => x20 (ix2 a b))
      (fun a b => x21 (ix2 a b)) (fun a b => x22 (ix2 a b)) (fun e => x23 (ix1 e)) (fun a b => x24 (ix2 a b)) s o := by
  refine (lead_apply _ s o).trans (logits_of _ _ (fun s e => ?_) x23 x24 s o)
  refine (rowsX_apply _ s e).trans ((liftX_apply _ s e).trans (layer_of _ _ (fun s e => ?_) x14 x15 x16 x17 x18 x19 x20 x21 x22 s e))
  exact (liftX_apply _ s e).trans (layer_of _ _ (fun s e => embedK_apply x0 x2 x3 x4 s e) x5 x6 x7 x8 x9 x10 x11 x12 x13 s e)

end Cert.KerResult
-- ==== Proof.Equal.lean ====
/-
  The reference's value and the kernel's logits are the same array.
-/
module

public import proofs.«01_k».proof.Proof.RefResult
public import proofs.«01_k».proof.Proof.KerResult
public import proofs.«01_k».proof.Proof.KerEntry

@[expose] public section

set_option maxRecDepth 16384

namespace Cert.Equal

open Cert.KernelIdeal Cert.KernelIdeal.Gen Cert.KerLayer Cert.KerRows Cert.ReferenceIdeal.Read Idealize.ShloMosaic Idealize.ShloMosaic.TcCoe
open Idealize.SL.Sem

/-- The two results, of the same arguments. -/
theorem equal (x0 : IVec S1x16384 32) (x2 : FVec Ideal S256x512 .f32) (x3 : FVec Ideal S64x512 .f32) (x4 : FVec Ideal S256x512 .f32)
    (x5 : FVec Ideal S512 .f32) (x6 : FVec Ideal S128x512 .f32) (x7 : FVec Ideal S128x512 .f32) (x8 : FVec Ideal S512x512 .f32)
    (x9 : FVec Ideal S512x512 .f32) (x10 : FVec Ideal S512 .f32) (x11 : FVec Ideal S1365x512 .f32) (x12 : FVec Ideal S1365x512 .f32)
    (x13 : FVec Ideal S512x1365 .f32) (x14 : FVec Ideal S512 .f32) (x15 : FVec Ideal S128x512 .f32) (x16 : FVec Ideal S128x512 .f32)
    (x17 : FVec Ideal S512x512 .f32) (x18 : FVec Ideal S512x512 .f32) (x19 : FVec Ideal S512 .f32) (x20 : FVec Ideal S1365x512 .f32)
    (x21 : FVec Ideal S1365x512 .f32) (x22 : FVec Ideal S512x1365 .f32) (x23 : FVec Ideal S512 .f32) (x24 : FVec Ideal S256x512 .f32) :
    (val_main_v228 (F := Ideal) x0 x2 x3 x4 x5 x6 x7 x8 x9 x10 x11 x12 x13 x14 x15 x16 x17 x18 x19 x20 x21 x22 x23 x24 : FVec Ideal S1x16384x256 .f32) =
      shapeCast S1x16384x256 (Cert.Region2.G (rowsX (liftX (layerK (liftX (layerK (embedK x0 x2 x3 x4) x5 x6 x7 x8 x9 x10 x11 x12 x13))
        x14 x15 x16 x17 x18 x19 x20 x21 x22))) x23
      (transpose S512x256 [1, 0] x24 transposes_S256x512_S512x256_1_0)) shapeCasts_S16384x256_S1x16384x256 := by
  funext i
  obtain ⟨s, o, rfl⟩ : ∃ (s : Fin 16384) (o : Fin 256), i = (ix3 0 s o : S1x16384x256.Idx) := ⟨i 1, i 2, by
    funext a
    match a with
    | ⟨0, _⟩ => exact Subsingleton.elim (α := Fin 1) _ _
    | ⟨1, _⟩ => rfl
    | ⟨2, _⟩ => rfl⟩
  exact (Cert.RefResult.result_apply x0 x2 x3 x4 x5 x6 x7 x8 x9 x10 x11 x12 x13 x14 x15 x16 x17 x18 x19 x20 x21 x22 x23 x24 s o).trans (Cert.KerResult.result_apply x0 x2 x3 x4 x5 x6 x7 x8 x9 x10 x11 x12 x13 x14 x15 x16 x17 x18 x19 x20 x21 x22 x23 x24 s o).symm

variable (m : (ℓ : Loc nD τ sig) → Buf (Elt Ideal) ℓ)

/-- From arguments equal to the kernel's, the reference's value is the kernel's result. -/
theorem agree (c : Dev nD) {x0 : IVec S1x16384 32} {x2 : FVec Ideal S256x512 .f32} {x3 : FVec Ideal S64x512 .f32} {x4 : FVec Ideal S256x512 .f32}
    {x5 : FVec Ideal S512 .f32} {x6 : FVec Ideal S128x512 .f32} {x7 : FVec Ideal S128x512 .f32} {x8 : FVec Ideal S512x512 .f32}
    {x9 : FVec Ideal S512x512 .f32} {x10 : FVec Ideal S512 .f32} {x11 : FVec Ideal S1365x512 .f32} {x12 : FVec Ideal S1365x512 .f32}
    {x13 : FVec Ideal S512x1365 .f32} {x14 : FVec Ideal S512 .f32} {x15 : FVec Ideal S128x512 .f32} {x16 : FVec Ideal S128x512 .f32}
    {x17 : FVec Ideal S512x512 .f32} {x18 : FVec Ideal S512x512 .f32} {x19 : FVec Ideal S512 .f32} {x20 : FVec Ideal S1365x512 .f32}
    {x21 : FVec Ideal S1365x512 .f32} {x22 : FVec Ideal S512x1365 .f32} {x23 : FVec Ideal S512 .f32} {x24 : FVec Ideal S256x512 .f32}
    (e0 : x0 = m ((c : Thread nD τ).loc main_arg0))
    (e2 : x2 = m ((c : Thread nD τ).loc main_arg2))
    (e3 : x3 = m ((c : Thread nD τ).loc main_arg3))
    (e4 : x4 = m ((c : Thread nD τ).loc main_arg4))
    (e5 : x5 = m ((c : Thread nD τ).loc main_arg5))
    (e6 : x6 = m ((c : Thread nD τ).loc main_arg6))
    (e7 : x7 = m ((c : Thread nD τ).loc main_arg7))
    (e8 : x8 = m ((c : Thread nD τ).loc main_arg8))
    (e9 : x9 = m ((c : Thread nD τ).loc main_arg9))
    (e10 : x10 = m ((c : Thread nD τ).loc main_arg10))
    (e11 : x11 = m ((c : Thread nD τ).loc main_arg11))
    (e12 : x12 = m ((c : Thread nD τ).loc main_arg12))
    (e13 : x13 = m ((c : Thread nD τ).loc main_arg13))
    (e14 : x14 = m ((c : Thread nD τ).loc main_arg14))
    (e15 : x15 = m ((c : Thread nD τ).loc main_arg15))
    (e16 : x16 = m ((c : Thread nD τ).loc main_arg16))
    (e17 : x17 = m ((c : Thread nD τ).loc main_arg17))
    (e18 : x18 = m ((c : Thread nD τ).loc main_arg18))
    (e19 : x19 = m ((c : Thread nD τ).loc main_arg19))
    (e20 : x20 = m ((c : Thread nD τ).loc main_arg20))
    (e21 : x21 = m ((c : Thread nD τ).loc main_arg21))
    (e22 : x22 = m ((c : Thread nD τ).loc main_arg22))
    (e23 : x23 = m ((c : Thread nD τ).loc main_arg23))
    (e24 : x24 = m ((c : Thread nD τ).loc main_arg24)) :
    (val_main_v228 (F := Ideal) x0 x2 x3 x4 x5 x6 x7 x8 x9 x10 x11 x12 x13 x14 x15 x16 x17 x18 x19 x20 x21 x22 x23 x24 : FVec Ideal S1x16384x256 .f32) =
      shapeCast S1x16384x256 (Cert.KerEntry.logits m c) shapeCasts_S16384x256_S1x16384x256 := by
  subst e0 e2 e3 e4 e5 e6 e7 e8 e9 e10 e11 e12 e13 e14 e15 e16 e17 e18 e19 e20 e21 e22 e23 e24
  exact equal _ _ _ _ _ _ _ _ _ _ _ _ _ _ _ _ _ _ _ _ _ _ _ _

end Cert.Equal
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KerRun
public import proofs.«01_k».proof.Proof.RefRun
public import proofs.«01_k».proof.Proof.Equal

@[expose] public section

set_option maxRecDepth 16384

noncomputable section

namespace Cert.Proof

open Idealize.ShloMosaic Idealize.SL.Sem

/-- The claim: the three programs leave their arguments unchanged, the kernel's idealization rewrites nothing, and both idealized
programs end with the same result. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.RefRun.frame m ρ,
  trivial,
  fun m ρ m' ρ' _ h => ⟨fun c => shapeCast Cert.KernelIdeal.S1x16384x256 (Cert.KerEntry.logits m c)
      Cert.KernelIdeal.Gen.shapeCasts_S16384x256_S1x16384x256,
    Cert.KerRun.run m ρ,
    (θ_run _ _ _).mono (fun _ k c => ⟨(k c).1.trans (Cert.Equal.agree m c
        (h c).1 (h c).2.2.1 (h c).2.2.2.1 (h c).2.2.2.2.1 (h c).2.2.2.2.2.1 (h c).2.2.2.2.2.2.1
        (h c).2.2.2.2.2.2.2.1 (h c).2.2.2.2.2.2.2.2.1 (h c).2.2.2.2.2.2.2.2.2.1 (h c).2.2.2.2.2.2.2.2.2.2.1 (h c).2.2.2.2.2.2.2.2.2.2.2.1 (h c).2.2.2.2.2.2.2.2.2.2.2.2.1
        (h c).2.2.2.2.2.2.2.2.2.2.2.2.2.1 (h c).2.2.2.2.2.2.2.2.2.2.2.2.2.2.1 (h c).2.2.2.2.2.2.2.2.2.2.2.2.2.2.2.1 (h c).2.2.2.2.2.2.2.2.2.2.2.2.2.2.2.2.1 (h c).2.2.2.2.2.2.2.2.2.2.2.2.2.2.2.2.2.1 (h c).2.2.2.2.2.2.2.2.2.2.2.2.2.2.2.2.2.2.1
        (h c).2.2.2.2.2.2.2.2.2.2.2.2.2.2.2.2.2.2.2.1 (h c).2.2.2.2.2.2.2.2.2.2.2.2.2.2.2.2.2.2.2.2.1 (h c).2.2.2.2.2.2.2.2.2.2.2.2.2.2.2.2.2.2.2.2.2.1 (h c).2.2.2.2.2.2.2.2.2.2.2.2.2.2.2.2.2.2.2.2.2.2.1 (h c).2.2.2.2.2.2.2.2.2.2.2.2.2.2.2.2.2.2.2.2.2.2.2.1 (h c).2.2.2.2.2.2.2.2.2.2.2.2.2.2.2.2.2.2.2.2.2.2.2.2), (k c).2⟩)
      (Cert.RefRun.run m' ρ')⟩⟩

end Cert.Proof

end
